-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).1 = (fun _ => 1#1)
    ∧ (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.1 = (fun _ => 1#1)
    ∧ (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.1 = (fun _ => 1#1)
    ∧ (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.2.1 = (fun _ => 1#1)
    ∧ (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.2.2 = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).1 = (fun _ => 1#1)
    ∧ (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.1 = (fun _ => 1#1)
    ∧ (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.1 = (fun _ => 1#1)
    ∧ (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.2.1 = (fun _ => 1#1)
    ∧ (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.2.2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_LnS (m : (ℓ : Loc Cert.LnS.nD Cert.LnS.τ Cert.LnS.sig) → Buf (Elt Bits) ℓ) : Prop :=
  True

def Pre_LnSIdeal (m : (ℓ : Loc Cert.LnSIdeal.nD Cert.LnSIdeal.τ Cert.LnSIdeal.sig) → Buf (Elt Ideal) ℓ) : Prop :=
  True

def Pre_LnSRefIdeal (m : (ℓ : Loc Cert.LnSRefIdeal.nD Cert.LnSRefIdeal.τ Cert.LnSRefIdeal.sig) → Buf (Elt Ideal) ℓ) : Prop :=
  True

def Pre_LnM (m : (ℓ : Loc Cert.LnM.nD Cert.LnM.τ Cert.LnM.sig) → Buf (Elt Bits) ℓ) : Prop :=
  True

def Pre_LnMIdeal (m : (ℓ : Loc Cert.LnMIdeal.nD Cert.LnMIdeal.τ Cert.LnMIdeal.sig) → Buf (Elt Ideal) ℓ) : Prop :=
  True

def Pre_LnMRefIdeal (m : (ℓ : Loc Cert.LnMRefIdeal.nD Cert.LnMRefIdeal.τ Cert.LnMRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_LnS [hLnS : Cert.LnS.Facts] : Prop :=
  ∀ (m : (ℓ : Loc Cert.LnS.nD Cert.LnS.τ Cert.LnS.sig) → Buf (Elt Bits) ℓ) (g : Dev Cert.LnS.nD → PrngReg), Pre_LnS m →
    θ_run (Cert.LnS.defs (F := Bits)) (onTc (τ := Cert.LnS.τ) (Cert.LnS.main (F := Bits))) ⟨m, fun _ => 0, g⟩ (fun r => (∀ c : Dev Cert.LnS.nD,
      r.2.mem ((c.tc : Thread Cert.LnS.nD Cert.LnS.τ).loc Cert.LnS.main_arg0) = m ((c.tc : Thread Cert.LnS.nD Cert.LnS.τ).loc Cert.LnS.main_arg0)
      ∧ r.2.mem ((c.tc : Thread Cert.LnS.nD Cert.LnS.τ).loc Cert.LnS.main_arg1) = m ((c.tc : Thread Cert.LnS.nD Cert.LnS.τ).loc Cert.LnS.main_arg1)
      ∧ r.2.mem ((c.tc : Thread Cert.LnS.nD Cert.LnS.τ).loc Cert.LnS.main_arg2) = m ((c.tc : Thread Cert.LnS.nD Cert.LnS.τ).loc Cert.LnS.main_arg2)
      ∧ r.2.mem ((c.tc : Thread Cert.LnS.nD Cert.LnS.τ).loc Cert.LnS.main_arg3) = m ((c.tc : Thread Cert.LnS.nD Cert.LnS.τ).loc Cert.LnS.main_arg3))
      ∧ r.2.sem = fun _ => 0)

def quiescent_LnSIdeal [hLnSIdeal : Cert.LnSIdeal.Facts] : Prop :=
  ∀ (m : (ℓ : Loc Cert.LnSIdeal.nD Cert.LnSIdeal.τ Cert.LnSIdeal.sig) → Buf (Elt Ideal) ℓ) (g : Dev Cert.LnSIdeal.nD → PrngReg), Pre_LnSIdeal m →
    θ_run (Cert.LnSIdeal.defs (F := Ideal)) (onTc (τ := Cert.LnSIdeal.τ) (Cert.LnSIdeal.main (F := Ideal))) ⟨m, fun _ => 0, g⟩ (fun r => (∀ c : Dev Cert.LnSIdeal.nD,
      r.2.mem ((c.tc : Thread Cert.LnSIdeal.nD Cert.LnSIdeal.τ).loc Cert.LnSIdeal.main_arg0) = m ((c.tc : Thread Cert.LnSIdeal.nD Cert.LnSIdeal.τ).loc Cert.LnSIdeal.main_arg0)
      ∧ r.2.mem ((c.tc : Thread Cert.LnSIdeal.nD Cert.LnSIdeal.τ).loc Cert.LnSIdeal.main_arg1) = m ((c.tc : Thread Cert.LnSIdeal.nD Cert.LnSIdeal.τ).loc Cert.LnSIdeal.main_arg1)
      ∧ r.2.mem ((c.tc : Thread Cert.LnSIdeal.nD Cert.LnSIdeal.τ).loc Cert.LnSIdeal.main_arg2) = m ((c.tc : Thread Cert.LnSIdeal.nD Cert.LnSIdeal.τ).loc Cert.LnSIdeal.main_arg2)
      ∧ r.2.mem ((c.tc : Thread Cert.LnSIdeal.nD Cert.LnSIdeal.τ).loc Cert.LnSIdeal.main_arg3) = m ((c.tc : Thread Cert.LnSIdeal.nD Cert.LnSIdeal.τ).loc Cert.LnSIdeal.main_arg3))
      ∧ r.2.sem = fun _ => 0)

def quiescent_LnSRefIdeal [hLnSRefIdeal : Cert.LnSRefIdeal.Facts] : Prop :=
  ∀ (m : (ℓ : Loc Cert.LnSRefIdeal.nD Cert.LnSRefIdeal.τ Cert.LnSRefIdeal.sig) → Buf (Elt Ideal) ℓ) (g : Dev Cert.LnSRefIdeal.nD → PrngReg), Pre_LnSRefIdeal m →
    θ_run (Cert.LnSRefIdeal.defs (F := Ideal)) (onTc (τ := Cert.LnSRefIdeal.τ) (Cert.LnSRefIdeal.main (F := Ideal))) ⟨m, fun _ => 0, g⟩ (fun r => (∀ c : Dev Cert.LnSRefIdeal.nD,
      r.2.mem ((c.tc : Thread Cert.LnSRefIdeal.nD Cert.LnSRefIdeal.τ).loc Cert.LnSRefIdeal.main_arg0) = m ((c.tc : Thread Cert.LnSRefIdeal.nD Cert.LnSRefIdeal.τ).loc Cert.LnSRefIdeal.main_arg0)
      ∧ r.2.mem ((c.tc : Thread Cert.LnSRefIdeal.nD Cert.LnSRefIdeal.τ).loc Cert.LnSRefIdeal.main_arg1) = m ((c.tc : Thread Cert.LnSRefIdeal.nD Cert.LnSRefIdeal.τ).loc Cert.LnSRefIdeal.main_arg1)
      ∧ r.2.mem ((c.tc : Thread Cert.LnSRefIdeal.nD Cert.LnSRefIdeal.τ).loc Cert.LnSRefIdeal.main_arg2) = m ((c.tc : Thread Cert.LnSRefIdeal.nD Cert.LnSRefIdeal.τ).loc Cert.LnSRefIdeal.main_arg2)
      ∧ r.2.mem ((c.tc : Thread Cert.LnSRefIdeal.nD Cert.LnSRefIdeal.τ).loc Cert.LnSRefIdeal.main_arg3) = m ((c.tc : Thread Cert.LnSRefIdeal.nD Cert.LnSRefIdeal.τ).loc Cert.LnSRefIdeal.main_arg3))
      ∧ r.2.sem = fun _ => 0)

def quiescent_LnM [hLnM : Cert.LnM.Facts] : Prop :=
  ∀ (m : (ℓ : Loc Cert.LnM.nD Cert.LnM.τ Cert.LnM.sig) → Buf (Elt Bits) ℓ) (g : Dev Cert.LnM.nD → PrngReg), Pre_LnM m →
    θ_run (Cert.LnM.defs (F := Bits)) (onTc (τ := Cert.LnM.τ) (Cert.LnM.main (F := Bits))) ⟨m, fun _ => 0, g⟩ (fun r => (∀ c : Dev Cert.LnM.nD,
      r.2.mem ((c.tc : Thread Cert.LnM.nD Cert.LnM.τ).loc Cert.LnM.main_arg0) = m ((c.tc : Thread Cert.LnM.nD Cert.LnM.τ).loc Cert.LnM.main_arg0)
      ∧ r.2.mem ((c.tc : Thread Cert.LnM.nD Cert.LnM.τ).loc Cert.LnM.main_arg1) = m ((c.tc : Thread Cert.LnM.nD Cert.LnM.τ).loc Cert.LnM.main_arg1)
      ∧ r.2.mem ((c.tc : Thread Cert.LnM.nD Cert.LnM.τ).loc Cert.LnM.main_arg2) = m ((c.tc : Thread Cert.LnM.nD Cert.LnM.τ).loc Cert.LnM.main_arg2)
      ∧ r.2.mem ((c.tc : Thread Cert.LnM.nD Cert.LnM.τ).loc Cert.LnM.main_arg3) = m ((c.tc : Thread Cert.LnM.nD Cert.LnM.τ).loc Cert.LnM.main_arg3))
      ∧ r.2.sem = fun _ => 0)

def quiescent_LnMIdeal [hLnMIdeal : Cert.LnMIdeal.Facts] : Prop :=
  ∀ (m : (ℓ : Loc Cert.LnMIdeal.nD Cert.LnMIdeal.τ Cert.LnMIdeal.sig) → Buf (Elt Ideal) ℓ) (g : Dev Cert.LnMIdeal.nD → PrngReg), Pre_LnMIdeal m →
    θ_run (Cert.LnMIdeal.defs (F := Ideal)) (onTc (τ := Cert.LnMIdeal.τ) (Cert.LnMIdeal.main (F := Ideal))) ⟨m, fun _ => 0, g⟩ (fun r => (∀ c : Dev Cert.LnMIdeal.nD,
      r.2.mem ((c.tc : Thread Cert.LnMIdeal.nD Cert.LnMIdeal.τ).loc Cert.LnMIdeal.main_arg0) = m ((c.tc : Thread Cert.LnMIdeal.nD Cert.LnMIdeal.τ).loc Cert.LnMIdeal.main_arg0)
      ∧ r.2.mem ((c.tc : Thread Cert.LnMIdeal.nD Cert.LnMIdeal.τ).loc Cert.LnMIdeal.main_arg1) = m ((c.tc : Thread Cert.LnMIdeal.nD Cert.LnMIdeal.τ).loc Cert.LnMIdeal.main_arg1)
      ∧ r.2.mem ((c.tc : Thread Cert.LnMIdeal.nD Cert.LnMIdeal.τ).loc Cert.LnMIdeal.main_arg2) = m ((c.tc : Thread Cert.LnMIdeal.nD Cert.LnMIdeal.τ).loc Cert.LnMIdeal.main_arg2)
      ∧ r.2.mem ((c.tc : Thread Cert.LnMIdeal.nD Cert.LnMIdeal.τ).loc Cert.LnMIdeal.main_arg3) = m ((c.tc : Thread Cert.LnMIdeal.nD Cert.LnMIdeal.τ).loc Cert.LnMIdeal.main_arg3))
      ∧ r.2.sem = fun _ => 0)

def quiescent_LnMRefIdeal [hLnMRefIdeal : Cert.LnMRefIdeal.Facts] : Prop :=
  ∀ (m : (ℓ : Loc Cert.LnMRefIdeal.nD Cert.LnMRefIdeal.τ Cert.LnMRefIdeal.sig) → Buf (Elt Ideal) ℓ) (g : Dev Cert.LnMRefIdeal.nD → PrngReg), Pre_LnMRefIdeal m →
    θ_run (Cert.LnMRefIdeal.defs (F := Ideal)) (onTc (τ := Cert.LnMRefIdeal.τ) (Cert.LnMRefIdeal.main (F := Ideal))) ⟨m, fun _ => 0, g⟩ (fun r => (∀ c : Dev Cert.LnMRefIdeal.nD,
      r.2.mem ((c.tc : Thread Cert.LnMRefIdeal.nD Cert.LnMRefIdeal.τ).loc Cert.LnMRefIdeal.main_arg0) = m ((c.tc : Thread Cert.LnMRefIdeal.nD Cert.LnMRefIdeal.τ).loc Cert.LnMRefIdeal.main_arg0)
      ∧ r.2.mem ((c.tc : Thread Cert.LnMRefIdeal.nD Cert.LnMRefIdeal.τ).loc Cert.LnMRefIdeal.main_arg1) = m ((c.tc : Thread Cert.LnMRefIdeal.nD Cert.LnMRefIdeal.τ).loc Cert.LnMRefIdeal.main_arg1)
      ∧ r.2.mem ((c.tc : Thread Cert.LnMRefIdeal.nD Cert.LnMRefIdeal.τ).loc Cert.LnMRefIdeal.main_arg2) = m ((c.tc : Thread Cert.LnMRefIdeal.nD Cert.LnMRefIdeal.τ).loc Cert.LnMRefIdeal.main_arg2)
      ∧ r.2.mem ((c.tc : Thread Cert.LnMRefIdeal.nD Cert.LnMRefIdeal.τ).loc Cert.LnMRefIdeal.main_arg3) = m ((c.tc : Thread Cert.LnMRefIdeal.nD Cert.LnMRefIdeal.τ).loc Cert.LnMRefIdeal.main_arg3))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v48_0)) (v1 : (c : Dev Cert.RetIdeal.nD) → Buf (Elt Ideal) ((c.tc : Thread Cert.RetIdeal.nD Cert.RetIdeal.τ).loc Cert.RetIdeal.main_v48_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v48_0) = v0 c
          ∧ r.2.mem ((c.tc : Thread Cert.RetIdeal.nD Cert.RetIdeal.τ).loc Cert.RetIdeal.main_v48_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v50) = v0 c
          ∧ r.2.mem ((c.tc : Thread Cert.RetRefIdeal.nD Cert.RetRefIdeal.τ).loc Cert.RetRefIdeal.main_v48_8) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Att_AttIdeal : Prop :=
  IdealRules.named_const.Statement Cert.AttIdeal.κ "mask" .f32 0xF149F2CA#32 ⊥

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v82) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v21_0)) (v1 : (c : Dev Cert.LnIdeal.nD) → Buf (Elt Ideal) ((c.tc : Thread Cert.LnIdeal.nD Cert.LnIdeal.τ).loc Cert.LnIdeal.main_v21_1)) (v2 : (c : Dev Cert.LnIdeal.nD) → Buf (Elt Ideal) ((c.tc : Thread Cert.LnIdeal.nD Cert.LnIdeal.τ).loc Cert.LnIdeal.main_v21_2)) (v3 : (c : Dev Cert.LnIdeal.nD) → Buf (Elt Ideal) ((c.tc : Thread Cert.LnIdeal.nD Cert.LnIdeal.τ).loc Cert.LnIdeal.main_v21_3)) (v4 : (c : Dev Cert.LnIdeal.nD) → Buf (Elt Ideal) ((c.tc : Thread Cert.LnIdeal.nD Cert.LnIdeal.τ).loc Cert.LnIdeal.main_v21_4)) (v5 : (c : Dev Cert.LnIdeal.nD) → Buf (Elt Ideal) ((c.tc : Thread Cert.LnIdeal.nD Cert.LnIdeal.τ).loc Cert.LnIdeal.main_v21_5)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v21_0) = v0 c
          ∧ r.2.mem ((c.tc : Thread Cert.LnIdeal.nD Cert.LnIdeal.τ).loc Cert.LnIdeal.main_v21_1) = v1 c
          ∧ r.2.mem ((c.tc : Thread Cert.LnIdeal.nD Cert.LnIdeal.τ).loc Cert.LnIdeal.main_v21_2) = v2 c
          ∧ r.2.mem ((c.tc : Thread Cert.LnIdeal.nD Cert.LnIdeal.τ).loc Cert.LnIdeal.main_v21_3) = v3 c
          ∧ r.2.mem ((c.tc : Thread Cert.LnIdeal.nD Cert.LnIdeal.τ).loc Cert.LnIdeal.main_v21_4) = v4 c
          ∧ r.2.mem ((c.tc : Thread Cert.LnIdeal.nD Cert.LnIdeal.τ).loc Cert.LnIdeal.main_v21_5) = v5 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v93) = v0 c
          ∧ r.2.mem ((c.tc : Thread Cert.LnRefIdeal.nD Cert.LnRefIdeal.τ).loc Cert.LnRefIdeal.main_v95) = v1 c
          ∧ r.2.mem ((c.tc : Thread Cert.LnRefIdeal.nD Cert.LnRefIdeal.τ).loc Cert.LnRefIdeal.main_v96) = v2 c
          ∧ r.2.mem ((c.tc : Thread Cert.LnRefIdeal.nD Cert.LnRefIdeal.τ).loc Cert.LnRefIdeal.main_v97) = v3 c
          ∧ r.2.mem ((c.tc : Thread Cert.LnRefIdeal.nD Cert.LnRefIdeal.τ).loc Cert.LnRefIdeal.main_v98) = v4 c
          ∧ r.2.mem ((c.tc : Thread Cert.LnRefIdeal.nD Cert.LnRefIdeal.τ).loc Cert.LnRefIdeal.main_v99) = v5 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v24_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v24_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v82) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_LnS_LnSIdeal : Prop :=
  True

def algebraic_LnSIdeal_LnSRefIdeal [hLnSIdeal : Cert.LnSIdeal.Facts] [hLnSRefIdeal : Cert.LnSRefIdeal.Facts] : Prop :=
  ∀ (m : (ℓ : Loc Cert.LnSIdeal.nD Cert.LnSIdeal.τ Cert.LnSIdeal.sig) → Buf (Elt Ideal) ℓ) (g : Dev Cert.LnSIdeal.nD → PrngReg)
    (m' : (ℓ : Loc Cert.LnSRefIdeal.nD Cert.LnSRefIdeal.τ Cert.LnSRefIdeal.sig) → Buf (Elt Ideal) ℓ) (g' : Dev Cert.LnSRefIdeal.nD → PrngReg), Pre_LnSIdeal m →
    (∀ c : Dev Cert.LnSIdeal.nD,
      m' ((c.tc : Thread Cert.LnSRefIdeal.nD Cert.LnSRefIdeal.τ).loc Cert.LnSRefIdeal.main_arg0) = m ((c.tc : Thread Cert.LnSIdeal.nD Cert.LnSIdeal.τ).loc Cert.LnSIdeal.main_arg0)
      ∧ m' ((c.tc : Thread Cert.LnSRefIdeal.nD Cert.LnSRefIdeal.τ).loc Cert.LnSRefIdeal.main_arg1) = m ((c.tc : Thread Cert.LnSIdeal.nD Cert.LnSIdeal.τ).loc Cert.LnSIdeal.main_arg1)
      ∧ m' ((c.tc : Thread Cert.LnSRefIdeal.nD Cert.LnSRefIdeal.τ).loc Cert.LnSRefIdeal.main_arg2) = m ((c.tc : Thread Cert.LnSIdeal.nD Cert.LnSIdeal.τ).loc Cert.LnSIdeal.main_arg2)
      ∧ m' ((c.tc : Thread Cert.LnSRefIdeal.nD Cert.LnSRefIdeal.τ).loc Cert.LnSRefIdeal.main_arg3) = m ((c.tc : Thread Cert.LnSIdeal.nD Cert.LnSIdeal.τ).loc Cert.LnSIdeal.main_arg3)) →
    ∃ (v0 : (c : Dev Cert.LnSIdeal.nD) → Buf (Elt Ideal) ((c.tc : Thread Cert.LnSIdeal.nD Cert.LnSIdeal.τ).loc Cert.LnSIdeal.main_v21_1)),
      θ_run (Cert.LnSIdeal.defs (F := Ideal)) (onTc (τ := Cert.LnSIdeal.τ) (Cert.LnSIdeal.main (F := Ideal))) ⟨m, fun _ => 0, g⟩ (fun r => ∀ c : Dev Cert.LnSIdeal.nD,
          r.2.mem ((c.tc : Thread Cert.LnSIdeal.nD Cert.LnSIdeal.τ).loc Cert.LnSIdeal.main_v21_1) = v0 c
          ∧ r.2.mem ((c.tc : Thread Cert.LnSIdeal.nD Cert.LnSIdeal.τ).loc Cert.LnSIdeal.main_arg0) = m ((c.tc : Thread Cert.LnSIdeal.nD Cert.LnSIdeal.τ).loc Cert.LnSIdeal.main_arg0)
          ∧ r.2.mem ((c.tc : Thread Cert.LnSIdeal.nD Cert.LnSIdeal.τ).loc Cert.LnSIdeal.main_arg1) = m ((c.tc : Thread Cert.LnSIdeal.nD Cert.LnSIdeal.τ).loc Cert.LnSIdeal.main_arg1)
          ∧ r.2.mem ((c.tc : Thread Cert.LnSIdeal.nD Cert.LnSIdeal.τ).loc Cert.LnSIdeal.main_arg2) = m ((c.tc : Thread Cert.LnSIdeal.nD Cert.LnSIdeal.τ).loc Cert.LnSIdeal.main_arg2)
          ∧ r.2.mem ((c.tc : Thread Cert.LnSIdeal.nD Cert.LnSIdeal.τ).loc Cert.LnSIdeal.main_arg3) = m ((c.tc : Thread Cert.LnSIdeal.nD Cert.LnSIdeal.τ).loc Cert.LnSIdeal.main_arg3))
      ∧ θ_run (Cert.LnSRefIdeal.defs (F := Ideal)) (onTc (τ := Cert.LnSRefIdeal.τ) (Cert.LnSRefIdeal.main (F := Ideal))) ⟨m', fun _ => 0, g'⟩ (fun r => ∀ c : Dev Cert.LnSRefIdeal.nD,
          r.2.mem ((c.tc : Thread Cert.LnSRefIdeal.nD Cert.LnSRefIdeal.τ).loc Cert.LnSRefIdeal.main_v27) = v0 c
          ∧ r.2.mem ((c.tc : Thread Cert.LnSRefIdeal.nD Cert.LnSRefIdeal.τ).loc Cert.LnSRefIdeal.main_arg0) = m' ((c.tc : Thread Cert.LnSRefIdeal.nD Cert.LnSRefIdeal.τ).loc Cert.LnSRefIdeal.main_arg0)
          ∧ r.2.mem ((c.tc : Thread Cert.LnSRefIdeal.nD Cert.LnSRefIdeal.τ).loc Cert.LnSRefIdeal.main_arg1) = m' ((c.tc : Thread Cert.LnSRefIdeal.nD Cert.LnSRefIdeal.τ).loc Cert.LnSRefIdeal.main_arg1)
          ∧ r.2.mem ((c.tc : Thread Cert.LnSRefIdeal.nD Cert.LnSRefIdeal.τ).loc Cert.LnSRefIdeal.main_arg2) = m' ((c.tc : Thread Cert.LnSRefIdeal.nD Cert.LnSRefIdeal.τ).loc Cert.LnSRefIdeal.main_arg2)
          ∧ r.2.mem ((c.tc : Thread Cert.LnSRefIdeal.nD Cert.LnSRefIdeal.τ).loc Cert.LnSRefIdeal.main_arg3) = m' ((c.tc : Thread Cert.LnSRefIdeal.nD Cert.LnSRefIdeal.τ).loc Cert.LnSRefIdeal.main_arg3))

def preserves_LnM_LnMIdeal : Prop :=
  True

def algebraic_LnMIdeal_LnMRefIdeal [hLnMIdeal : Cert.LnMIdeal.Facts] [hLnMRefIdeal : Cert.LnMRefIdeal.Facts] : Prop :=
  ∀ (m : (ℓ : Loc Cert.LnMIdeal.nD Cert.LnMIdeal.τ Cert.LnMIdeal.sig) → Buf (Elt Ideal) ℓ) (g : Dev Cert.LnMIdeal.nD → PrngReg)
    (m' : (ℓ : Loc Cert.LnMRefIdeal.nD Cert.LnMRefIdeal.τ Cert.LnMRefIdeal.sig) → Buf (Elt Ideal) ℓ) (g' : Dev Cert.LnMRefIdeal.nD → PrngReg), Pre_LnMIdeal m →
    (∀ c : Dev Cert.LnMIdeal.nD,
      m' ((c.tc : Thread Cert.LnMRefIdeal.nD Cert.LnMRefIdeal.τ).loc Cert.LnMRefIdeal.main_arg0) = m ((c.tc : Thread Cert.LnMIdeal.nD Cert.LnMIdeal.τ).loc Cert.LnMIdeal.main_arg0)
      ∧ m' ((c.tc : Thread Cert.LnMRefIdeal.nD Cert.LnMRefIdeal.τ).loc Cert.LnMRefIdeal.main_arg1) = m ((c.tc : Thread Cert.LnMIdeal.nD Cert.LnMIdeal.τ).loc Cert.LnMIdeal.main_arg1)
      ∧ m' ((c.tc : Thread Cert.LnMRefIdeal.nD Cert.LnMRefIdeal.τ).loc Cert.LnMRefIdeal.main_arg2) = m ((c.tc : Thread Cert.LnMIdeal.nD Cert.LnMIdeal.τ).loc Cert.LnMIdeal.main_arg2)
      ∧ m' ((c.tc : Thread Cert.LnMRefIdeal.nD Cert.LnMRefIdeal.τ).loc Cert.LnMRefIdeal.main_arg3) = m ((c.tc : Thread Cert.LnMIdeal.nD Cert.LnMIdeal.τ).loc Cert.LnMIdeal.main_arg3)) →
    ∃ (v0 : (c : Dev Cert.LnMIdeal.nD) → Buf (Elt Ideal) ((c.tc : Thread Cert.LnMIdeal.nD Cert.LnMIdeal.τ).loc Cert.LnMIdeal.main_v20_1)),
      θ_run (Cert.LnMIdeal.defs (F := Ideal)) (onTc (τ := Cert.LnMIdeal.τ) (Cert.LnMIdeal.main (F := Ideal))) ⟨m, fun _ => 0, g⟩ (fun r => ∀ c : Dev Cert.LnMIdeal.nD,
          r.2.mem ((c.tc : Thread Cert.LnMIdeal.nD Cert.LnMIdeal.τ).loc Cert.LnMIdeal.main_v20_1) = v0 c
          ∧ r.2.mem ((c.tc : Thread Cert.LnMIdeal.nD Cert.LnMIdeal.τ).loc Cert.LnMIdeal.main_arg0) = m ((c.tc : Thread Cert.LnMIdeal.nD Cert.LnMIdeal.τ).loc Cert.LnMIdeal.main_arg0)
          ∧ r.2.mem ((c.tc : Thread Cert.LnMIdeal.nD Cert.LnMIdeal.τ).loc Cert.LnMIdeal.main_arg1) = m ((c.tc : Thread Cert.LnMIdeal.nD Cert.LnMIdeal.τ).loc Cert.LnMIdeal.main_arg1)
          ∧ r.2.mem ((c.tc : Thread Cert.LnMIdeal.nD Cert.LnMIdeal.τ).loc Cert.LnMIdeal.main_arg2) = m ((c.tc : Thread Cert.LnMIdeal.nD Cert.LnMIdeal.τ).loc Cert.LnMIdeal.main_arg2)
          ∧ r.2.mem ((c.tc : Thread Cert.LnMIdeal.nD Cert.LnMIdeal.τ).loc Cert.LnMIdeal.main_arg3) = m ((c.tc : Thread Cert.LnMIdeal.nD Cert.LnMIdeal.τ).loc Cert.LnMIdeal.main_arg3))
      ∧ θ_run (Cert.LnMRefIdeal.defs (F := Ideal)) (onTc (τ := Cert.LnMRefIdeal.τ) (Cert.LnMRefIdeal.main (F := Ideal))) ⟨m', fun _ => 0, g'⟩ (fun r => ∀ c : Dev Cert.LnMRefIdeal.nD,
          r.2.mem ((c.tc : Thread Cert.LnMRefIdeal.nD Cert.LnMRefIdeal.τ).loc Cert.LnMRefIdeal.main_v26) = v0 c
          ∧ r.2.mem ((c.tc : Thread Cert.LnMRefIdeal.nD Cert.LnMRefIdeal.τ).loc Cert.LnMRefIdeal.main_arg0) = m' ((c.tc : Thread Cert.LnMRefIdeal.nD Cert.LnMRefIdeal.τ).loc Cert.LnMRefIdeal.main_arg0)
          ∧ r.2.mem ((c.tc : Thread Cert.LnMRefIdeal.nD Cert.LnMRefIdeal.τ).loc Cert.LnMRefIdeal.main_arg1) = m' ((c.tc : Thread Cert.LnMRefIdeal.nD Cert.LnMRefIdeal.τ).loc Cert.LnMRefIdeal.main_arg1)
          ∧ r.2.mem ((c.tc : Thread Cert.LnMRefIdeal.nD Cert.LnMRefIdeal.τ).loc Cert.LnMRefIdeal.main_arg2) = m' ((c.tc : Thread Cert.LnMRefIdeal.nD Cert.LnMRefIdeal.τ).loc Cert.LnMRefIdeal.main_arg2)
          ∧ r.2.mem ((c.tc : Thread Cert.LnMRefIdeal.nD Cert.LnMRefIdeal.τ).loc Cert.LnMRefIdeal.main_arg3) = m' ((c.tc : Thread Cert.LnMRefIdeal.nD Cert.LnMRefIdeal.τ).loc Cert.LnMRefIdeal.main_arg3))

def Claim : Prop :=
  ∃ (hRet : Cert.Ret.Facts) (hRetIdeal : Cert.RetIdeal.Facts) (hRetRefIdeal : Cert.RetRefIdeal.Facts) (hAtt : Cert.Att.Facts) (hAttIdeal : Cert.AttIdeal.Facts) (hAttRefIdeal : Cert.AttRefIdeal.Facts) (hLn : Cert.Ln.Facts) (hLnIdeal : Cert.LnIdeal.Facts) (hLnRefIdeal : Cert.LnRefIdeal.Facts) (hMix : Cert.Mix.Facts) (hMixIdeal : Cert.MixIdeal.Facts) (hMixRefIdeal : Cert.MixRefIdeal.Facts) (hLnS : Cert.LnS.Facts) (hLnSIdeal : Cert.LnSIdeal.Facts) (hLnSRefIdeal : Cert.LnSRefIdeal.Facts) (hLnM : Cert.LnM.Facts) (hLnMIdeal : Cert.LnMIdeal.Facts) (hLnMRefIdeal : Cert.LnMRefIdeal.Facts) (hPre_finite : Cert.Pre_finite.Facts),
    quiescent_Ret (hRet := hRet)
    ∧ quiescent_RetIdeal (hRetIdeal := hRetIdeal)
    ∧ quiescent_RetRefIdeal (hRetRefIdeal := hRetRefIdeal)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ quiescent_Ln (hLn := hLn)
    ∧ quiescent_LnIdeal (hLnIdeal := hLnIdeal)
    ∧ quiescent_LnRefIdeal (hLnRefIdeal := hLnRefIdeal)
    ∧ quiescent_Mix (hMix := hMix)
    ∧ quiescent_MixIdeal (hMixIdeal := hMixIdeal)
    ∧ quiescent_MixRefIdeal (hMixRefIdeal := hMixRefIdeal)
    ∧ quiescent_LnS (hLnS := hLnS)
    ∧ quiescent_LnSIdeal (hLnSIdeal := hLnSIdeal)
    ∧ quiescent_LnSRefIdeal (hLnSRefIdeal := hLnSRefIdeal)
    ∧ quiescent_LnM (hLnM := hLnM)
    ∧ quiescent_LnMIdeal (hLnMIdeal := hLnMIdeal)
    ∧ quiescent_LnMRefIdeal (hLnMRefIdeal := hLnMRefIdeal)
    ∧ preserves_Ret_RetIdeal
    ∧ algebraic_RetIdeal_RetRefIdeal (hRetIdeal := hRetIdeal) (hRetRefIdeal := hRetRefIdeal)
    ∧ preserves_Att_AttIdeal
    ∧ algebraic_AttIdeal_AttRefIdeal_pre_finite (hAttIdeal := hAttIdeal) (hAttRefIdeal := hAttRefIdeal) (hPre_finite := hPre_finite)
    ∧ preserves_Ln_LnIdeal
    ∧ algebraic_LnIdeal_LnRefIdeal (hLnIdeal := hLnIdeal) (hLnRefIdeal := hLnRefIdeal)
    ∧ preserves_Mix_MixIdeal
    ∧ algebraic_MixIdeal_MixRefIdeal (hMixIdeal := hMixIdeal) (hMixRefIdeal := hMixRefIdeal)
    ∧ preserves_LnS_LnSIdeal
    ∧ algebraic_LnSIdeal_LnSRefIdeal (hLnSIdeal := hLnSIdeal) (hLnSRefIdeal := hLnSRefIdeal)
    ∧ preserves_LnM_LnMIdeal
    ∧ algebraic_LnMIdeal_LnMRefIdeal (hLnMIdeal := hLnMIdeal) (hLnMRefIdeal := hLnMRefIdeal)
-- ==== Pre_finite.lean ====
abbrev S8 : Shape := ⟨1, ![8]⟩
abbrev S8x2048x512 : Shape := ⟨3, ![8, 2048, 512]⟩
abbrev S8x2048x256 : Shape := ⟨3, ![8, 2048, 256]⟩
abbrev S16x256 : Shape := ⟨2, ![16, 256]⟩
abbrev S3x8x64x208 : Shape := ⟨4, ![3, 8, 64, 208]⟩
abbrev S8x2048x128 : Shape := ⟨3, ![8, 2048, 128]⟩
abbrev S16x128 : Shape := ⟨2, ![16, 128]⟩
abbrev S_ : Shape := ⟨0, ![]⟩

class Facts : Prop where
  slices_S8x2048x256_S8x2048x128_0_0_0 : S8x2048x256.Slices ![0, 0, 0] S8x2048x128
  slices_S16x256_S16x128_0_0 : S16x256.Slices ![0, 0] S16x128
  bcast_S_S8 : S_.BroadcastsInDim S8 (![] : Fin 0 → Fin S8.rank)
  bcast_S_S8x2048x512 : S_.BroadcastsInDim S8x2048x512 (![] : Fin 0 → Fin S8x2048x512.rank)
  bcast_S_S8x2048x128 : S_.BroadcastsInDim S8x2048x128 (![] : Fin 0 → Fin S8x2048x128.rank)
  bcast_S_S16x128 : S_.BroadcastsInDim S16x128 (![] : Fin 0 → Fin S16x128.rank)
  bcast_S_S3x8x64x208 : S_.BroadcastsInDim S3x8x64x208 (![] : Fin 0 → Fin S3x8x64x208.rank)

variable [Facts]

def fn {F : FTy → Type} [FloatOps F] (main_arg0 : FVec F S8 .f32) (main_arg1 : FVec F S8x2048x512 .f32) (main_arg2 : FVec F S8x2048x256 .f32) (main_arg3 : FVec F S16x256 .f32) (main_arg4 : FVec F S3x8x64x208 .f32) : IVec S8 1 × IVec S8x2048x512 1 × IVec S8x2048x128 1 × IVec S16x128 1 × IVec S3x8x64x208 1 :=
  let main_v0 : FVec F S8x2048x128 .f32 := (extractStridedSlice S8x2048x128 ![0, 0, 0] · slices_S8x2048x256_S8x2048x128_0_0_0) main_arg2
  let main_v1 : FVec F S16x128 .f32 := (extractStridedSlice S16x128 ![0, 0] · slices_S16x256_S16x128_0_0) main_arg3
  let main_v2 : FVec F S8 .f32 := Host.absf main_arg0
  let main_cst : FVec F S_ .f32 := constant S_ .f32 0x7F800000#32
  let main_v3 : FVec F S8 .f32 := broadcastInDim S8 ![] bcast_S_S8 main_cst
  let main_v4 : IVec S8 1 := cmpf .olt main_v2 main_v3
  let main_v5 : FVec F S8x2048x512 .f32 := Host.absf main_arg1
  let main_cst_0 : FVec F S_ .f32 := constant S_ .f32 0x7F800000#32
  let main_v6 : FVec F S8x2048x512 .f32 := broadcastInDim S8x2048x512 ![] bcast_S_S8x2048x512 main_cst_0
  let main_v7 : IVec S8x2048x512 1 := cmpf .olt main_v5 main_v6
  let main_v8 : FVec F S8x2048x128 .f32 := Host.absf main_v0
  let main_cst_1 : FVec F S_ .f32 := constant S_ .f32 0x7F800000#32
  let main_v9 : FVec F S8x2048x128 .f32 := broadcastInDim S8x2048x128 ![] bcast_S_S8x2048x128 main_cst_1
  let main_v10 : IVec S8x2048x128 1 := cmpf .olt main_v8 main_v9
  let main_v11 : FVec F S16x128 .f32 := Host.absf main_v1
  let main_cst_2 : FVec F S_ .f32 := constant S_ .f32 0x7F800000#32
  let main_v12 : FVec F S16x128 .f32 := broadcastInDim S16x128 ![] bcast_S_S16x128 main_cst_2
  let main_v13 : IVec S16x128 1 := cmpf .olt main_v11 main_v12
  let main_cst_3 : FVec F S_ .f32 := constant S_ .f32 0x7F800000#32
  let main_v14 : FVec F S3x8x64x208 .f32 := broadcastInDim S3x8x64x208 ![] bcast_S_S3x8x64x208 main_cst_3
  let main_v15 : IVec S3x8x64x208 1 := cmpf .olt main_arg4 main_v14
  (main_v4, main_v7, main_v10, main_v13, main_v15)
-- ==== Ret.lean ====
abbrev S8x4x128x128 : Shape := ⟨4, ![8, 4, 128, 128]⟩
abbrev S8x2048x512 : Shape := ⟨3, ![8, 2048, 512]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S8x64x512 : Shape := ⟨3, ![8, 64, 512]⟩
abbrev S1x64x128 : Shape := ⟨3, ![1, 64, 128]⟩
abbrev S64x128 : Shape := ⟨2, ![64, 128]⟩
abbrev S1x1x128x128 : Shape := ⟨4, ![1, 1, 128, 128]⟩
abbrev S128x128 : Shape := ⟨2, ![128, 128]⟩
abbrev S1 : Shape := ⟨1, ![1]⟩
abbrev S64x512 : Shape := ⟨2, ![64, 512]⟩
abbrev S1x64x512 : Shape := ⟨3, ![1, 64, 512]⟩

abbrev nBuf : Space → Nat
  | .hbm => 66
  | .vmem => 13
  | .smem => 1
  | _ => 0

abbrev bufTy : (tb : Table) → Fin (tcTables nBuf tb) → BufTy
  | .hbm, ⟨0, _⟩ => ⟨S8x4x128x128, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S64, .f32⟩
  | .hbm, ⟨16, _⟩ => ⟨S64x1, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .i1⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S1x64x64, .f32⟩
  | .hbm, ⟨28, _⟩ => ⟨S4x1x1, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S4x64x64, .f32⟩
  | .hbm, ⟨33, _⟩ => ⟨S_, .f32⟩
  | .hbm, ⟨34, _⟩ => ⟨S_, .f32⟩
  | .hbm, ⟨35, _⟩ => ⟨S4x64x64, .i1⟩
  | .hbm, ⟨36, _⟩ => ⟨S4x64x64, .f32⟩
  | .hbm, ⟨37, _⟩ => ⟨S4x64x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S4x1, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S4x64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S4x1, .f32⟩
  | .hbm, ⟨52, _⟩ => ⟨S4x64, .f32⟩
  | .hbm, ⟨53, _⟩ => ⟨S4x64, .f32⟩
  | .hbm, ⟨54, _⟩ => ⟨S4x64, .f32⟩
  | .hbm, ⟨55, _⟩ => ⟨S4x64, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4x64x1, .f32⟩
  | .hbm, ⟨61, _⟩ => ⟨S4x64x128, .f32⟩
  | .hbm, ⟨62, _⟩ => ⟨S4x64x1, .f32⟩
  | .hbm, ⟨63, _⟩ => ⟨S4x64x128, .f32⟩
  | .hbm, ⟨64, _⟩ => ⟨S8x2048x512, .f32⟩
  | .hbm, ⟨65, _⟩ => ⟨S8x4x128x128, .f32⟩
  | .local _ .vmem, ⟨0, _⟩ => ⟨S8x4x128x128, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S8x64x512, .f32⟩
  | .local _ .vmem, ⟨7, _⟩ => ⟨S4x64x64, .f32⟩
  | .local _ .vmem, ⟨8, _⟩ => ⟨S4x64x128, .f32⟩
  | .local _ .vmem, ⟨9, _⟩ => ⟨S4x64x128, .f32⟩
  | .local _ .vmem, ⟨10, _⟩ => ⟨S8x64x512, .f32⟩
  | .local _ .vmem, ⟨11, _⟩ => ⟨S8x64x512, .f32⟩
  | .local _ .vmem, ⟨12, _⟩ => ⟨S8x4x128x128, .f32⟩
  | .local _ .smem, ⟨0, _⟩ => ⟨S4, .f32⟩
  | _, _ => ⟨S8x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48_0 : Ref sig .tc := ⟨.hbm, 64, rfl⟩
abbrev main_v48_1 : Ref sig .tc := ⟨.hbm, 65, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RetRefIdeal.lean ====
abbrev S8x4x128x128 : Shape := ⟨4, ![8, 4, 128, 128]⟩
abbrev S8x2048x512 : Shape := ⟨3, ![8, 2048, 512]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S8x32x64x4x128 : Shape := ⟨5, ![8, 32, 64, 4, 128]⟩
abbrev S32x8x64x4x128 : Shape := ⟨5, ![32, 8, 64, 4, 128]⟩
abbrev S1x8x64x4x128 : Shape := ⟨5, ![1, 8, 64, 4, 128]⟩
abbrev S8x64x4x128 : Shape := ⟨4, ![8, 64, 4, 128]⟩
abbrev S8x4x64x64 : Shape := ⟨4, ![8, 4, 64, 64]⟩
abbrev S1x4x64x64 : Shape := ⟨4, ![1, 4, 64, 64]⟩
abbrev S8x4x128x64 : Shape := ⟨4, ![8, 4, 128, 64]⟩
abbrev S1x64x4x1 : Shape := ⟨4, ![1, 64, 4, 1]⟩
abbrev S1x4x1x1 : Shape := ⟨4, ![1, 4, 1, 1]⟩

abbrev nBuf : Space → Nat
  | .hbm => 129
  | .vmem => 0
  | .smem => 0
  | _ => 0

abbrev hbmTy0_0 (i : Nat) : BufTy := match i % 128 with
  | 0 => ⟨S8x4x128x128, .f32⟩
  | 1 => ⟨S8x2048x512, .f32⟩
  | 2 => ⟨S8x2048x512, .f32⟩
  | 3 => ⟨S8x2048x512, .f32⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S64, .f32⟩
  | 16 => ⟨S64x1, .f32⟩
  | 17 => ⟨S1x64, .f32⟩
  | 18 => ⟨S64x64, .f32⟩
  | 19 => ⟨S64x64, .f32⟩
  | 20 => ⟨S64x64, .f32⟩
  | 21 => ⟨S_, .f32⟩
  | 22 => ⟨S64x64, .f32⟩
  | 23 => ⟨S64x64, .i1⟩
  | 24 => ⟨S_, .f32⟩
  | 25 => ⟨S64x64, .f32⟩
  | 26 => ⟨S64x64, .f32⟩
  | 27 => ⟨S1x64x64, .f32⟩
  | 28 => ⟨S4x1x1, .f32⟩
  | 29 => ⟨S4x64x64, .f32⟩
  | 30 => ⟨S4x64x64, .f32⟩
  | 31 => ⟨S4x64x64, .f32⟩
  | 32 => ⟨S4x64x64, .f32⟩
  | 33 => ⟨S_, .f32⟩
  | 34 => ⟨S_, .f32⟩
  | 35 => ⟨S4x64x64, .i1⟩
  | 36 => ⟨S4x64x64, .f32⟩
  | 37 => ⟨S4x64x64, .f32⟩
  | 38 => ⟨S_, .f32⟩
  | 39 => ⟨S64, .f32⟩
  | 40 => ⟨S64, .f32⟩
  | 41 => ⟨S64x1, .f32⟩
  | 42 => ⟨S1x4, .f32⟩
  | 43 => ⟨S64x4, .f32⟩
  | 44 => ⟨S64x4, .f32⟩
  | 45 => ⟨S64x4, .f32⟩
  | 46 => ⟨S64x4, .f32⟩
  | 47 => ⟨S_, .f32⟩
  | 48 => ⟨S64, .f32⟩
  | 49 => ⟨S64, .f32⟩
  | 50 => ⟨S64x1, .f32⟩
  | 51 => ⟨S1x4, .f32⟩
  | 52 => ⟨S64x4, .f32⟩
  | 53 => ⟨S64x4, .f32⟩
  | 54 => ⟨S64x4, .f32⟩
  | 55 => ⟨S64x4, .f32⟩
  | 56 => ⟨S8x32x64x4x128, .f32⟩
  | 57 => ⟨S32x8x64x4x128, .f32⟩
  | 58 => ⟨S8x32x64x4x128, .f32⟩
  | 59 => ⟨S32x8x64x4x128, .f32⟩
  | 60 => ⟨S8x32x64x4x128, .f32⟩
  | 61 => ⟨S32x8x64x4x128, .f32⟩
  | 62 => ⟨S_, .f32⟩
  | 63 => ⟨S32x8x64x4x128, .f32⟩
  | 64 => ⟨S_, .i32⟩
  | 65 => ⟨S32x8x64x4x128, .f32⟩
  | 66 => ⟨S32x8x64x4x128, .f32⟩
  | 67 => ⟨S32x8x64x4x128, .f32⟩
  | 68 => ⟨S4x64x64, .f32⟩
  | 69 => ⟨S64x4, .f32⟩
  | 70 => ⟨S4, .f32⟩
  | 71 => ⟨S64x4, .f32⟩
  | 72 => ⟨S_, .i32⟩
  | 73 => ⟨S8x4x128x128, .f32⟩
  | 74 => ⟨S32x8x64x4x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x8x64x4x128, .f32⟩
  | 82 => ⟨S8x64x4x128, .f32⟩
  | 83 => ⟨S_, .i32⟩
  | 84 => ⟨S_, .i32⟩
  | 85 => ⟨S_, .i32⟩
  | 86 => ⟨S_, .i32⟩
  | 87 => ⟨S1x8x64x4x128, .f32⟩
  | 88 => ⟨S8x64x4x128, .f32⟩
  | 89 => ⟨S_, .i32⟩
  | 90 => ⟨S_, .i32⟩
  | 91 => ⟨S_, .i32⟩
  | 92 => ⟨S_, .i32⟩
  | 93 => ⟨S1x8x64x4x128, .f32⟩
  | 94 => ⟨S8x64x4x128, .f32⟩
  | 95 => ⟨S8x4x64x64, .f32⟩
  | 96 => ⟨S1x4x64x64, .f32⟩
  | 97 => ⟨S8x4x64x64, .f32⟩
  | 98 => ⟨S8x4x64x64, .f32⟩
  | 99 => ⟨S8x4x128x64, .f32⟩
  | 100 => ⟨S8x64x4x128, .f32⟩
  | 101 => ⟨S8x4x128x64, .f32⟩
  | 102 => ⟨S8x64x4x128, .f32⟩
  | 103 => ⟨S1x64x4x1, .f32⟩
  | 104 => ⟨S8x64x4x128, .f32⟩
  | 105 => ⟨S8x64x4x128, .f32⟩
  | 106 => ⟨S_, .f32⟩
  | 107 => ⟨S4, .f32⟩
  | 108 => ⟨S4, .f32⟩
  | 109 => ⟨S4, .f32⟩
  | 110 => ⟨S1x4x1x1, .f32⟩
  | 111 => ⟨S8x4x128x128, .f32⟩
  | 112 => ⟨S8x4x128x128, .f32⟩
  | 113 => ⟨S1x64x4x1, .f32⟩
  | 114 => ⟨S8x64x4x128, .f32⟩
  | 115 => ⟨S8x64x4x128, .f32⟩
  | 116 => ⟨S8x4x128x128, .f32⟩
  | 117 => ⟨S8x4x128x128, .f32⟩
  | 118 => ⟨S8x64x4x128, .f32⟩
  | 119 => ⟨S1x8x64x4x128, .f32⟩
  | 120 => ⟨S_, .i32⟩
  | 121 => ⟨S_, .i32⟩
  | 122 => ⟨S_, .i32⟩
  | 123 => ⟨S_, .i32⟩
  | 124 => ⟨S32x8x64x4x128, .f32⟩
  | 125 => ⟨S_, .i32⟩
  | 126 => ⟨S_, .i32⟩
  | 127 => ⟨S8x32x64x4x128, .f32⟩
  | _ => ⟨S8x4x128x128, .f32⟩

abbrev hbmTy0_1 (i : Nat) : BufTy := match i % 128 with
  | 0 => ⟨S8x2048x512, .f32⟩
  | _ => ⟨S8x4x128x128, .f32⟩

abbrev hbmTy (i : Nat) : BufTy := match i / 128 with
  | 0 => hbmTy0_0 i
  | 1 => hbmTy0_1 i
  | _ => ⟨S8x4x128x128, .f32⟩

abbrev bufTy : (tb : Table) → Fin (tcTables nBuf tb) → BufTy
  | .hbm, ⟨i, _⟩ => hbmTy i
  | _, _ => ⟨S8x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_c : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev main_v48_3 : Ref sig .tc := ⟨.hbm, 68, rfl⟩
abbrev main_v48_4 : Ref sig .tc := ⟨.hbm, 69, rfl⟩
abbrev main_v48_5 : Ref sig .tc := ⟨.hbm, 70, rfl⟩
abbrev main_v48_6 : Ref sig .tc := ⟨.hbm, 71, rfl⟩
abbrev main_v48_7 : Ref sig .tc := ⟨.hbm, 72, rfl⟩
abbrev main_v48_8 : Ref sig .tc := ⟨.hbm, 73, rfl⟩
abbrev main_v48_9 : Ref sig .tc := ⟨.hbm, 74, rfl⟩
abbrev main_while0c_c_17 : Ref sig .tc := ⟨.hbm, 75, rfl⟩
abbrev main_while0c_v51 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v51 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v52 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v53 : Ref sig .tc := ⟨.hbm, 94, rfl⟩
abbrev main_while0b_v54 : Ref sig .tc := ⟨.hbm, 95, rfl⟩
abbrev main_while0b_v55 : Ref sig .tc := ⟨.hbm, 96, rfl⟩
abbrev main_while0b_v56 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_cst_17 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_call4_v0 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_v77 : Ref sig .tc := ⟨.hbm, 124, rfl⟩
abbrev main_while0b_c_18 : Ref sig .tc := ⟨.hbm, 125, rfl⟩
abbrev main_while0b_v78 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]

abbrev main_while0_count : Scf.Loop 32 := ⟨0#32, 32#32, 1#32⟩
-- ==== Att.lean ====
abbrev S8 : Shape := ⟨1, ![8]⟩
abbrev S8x2048x512 : Shape := ⟨3, ![8, 2048, 512]⟩
abbrev S8x2048x256 : Shape := ⟨3, ![8, 2048, 256]⟩
abbrev S16x256 : Shape := ⟨2, ![16, 256]⟩
abbrev S3x8x64x208 : Shape := ⟨4, ![3, 8, 64, 208]⟩
abbrev S1x256x512 : Shape := ⟨3, ![1, 256, 512]⟩
abbrev S1x256x256 : Shape := ⟨3, ![1, 256, 256]⟩
abbrev S1x128x256 : Shape := ⟨3, ![1, 128, 256]⟩
abbrev S128x256 : Shape := ⟨2, ![128, 256]⟩
abbrev S256x256 : Shape := ⟨2, ![256, 256]⟩
abbrev S384x256 : Shape := ⟨2, ![384, 256]⟩
abbrev S192x256 : Shape := ⟨2, ![192, 256]⟩
abbrev S1x64x512 : Shape := ⟨3, ![1, 64, 512]⟩
abbrev S64x512 : Shape := ⟨2, ![64, 512]⟩
abbrev S192x128 : Shape := ⟨2, ![192, 128]⟩
abbrev S16x128 : Shape := ⟨2, ![16, 128]⟩
abbrev S1x128 : Shape := ⟨2, ![1, 128]⟩
abbrev S256x208 : Shape := ⟨2, ![256, 208]⟩
abbrev S256x1 : Shape := ⟨2, ![256, 1]⟩
abbrev S208x128 : Shape := ⟨2, ![208, 128]⟩
abbrev S64x128 : Shape := ⟨2, ![64, 128]⟩
abbrev S256x128 : Shape := ⟨2, ![256, 128]⟩
abbrev S1x8x64x208 : Shape := ⟨4, ![1, 8, 64, 208]⟩
abbrev S8x64x208 : Shape := ⟨3, ![8, 64, 208]⟩
abbrev S1x64x208 : Shape := ⟨3, ![1, 64, 208]⟩
abbrev S64x208 : Shape := ⟨2, ![64, 208]⟩
abbrev S1 : Shape := ⟨1, ![1]⟩
abbrev S256 : Shape := ⟨1, ![256]⟩

abbrev nBuf : Space → Nat
  | .hbm => 6
  | .vmem => 10
  | .smem => 1
  | _ => 0

abbrev bufTy : (tb : Table) → Fin (tcTables nBuf tb) → BufTy
  | .hbm, ⟨0, _⟩ => ⟨S8, .f32⟩
  | .hbm, ⟨1, _⟩ => ⟨S8x2048x512, .f32⟩
  | .hbm, ⟨2, _⟩ => ⟨S8x2048x256, .f32⟩
  | .hbm, ⟨3, _⟩ => ⟨S16x256, .f32⟩
  | .hbm, ⟨4, _⟩ => ⟨S3x8x64x208, .f32⟩
  | .hbm, ⟨5, _⟩ => ⟨S8x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S16x256, .f32⟩
  | .local _ .vmem, ⟨7, _⟩ => ⟨S3x8x64x208, .f32⟩
  | .local _ .vmem, ⟨8, _⟩ => ⟨S1x256x512, .f32⟩
  | .local _ .vmem, ⟨9, _⟩ => ⟨S1x256x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def k0_off1 (i : grid0.Coords) (c0_i32 : BitVec 32) : Fin 4 → Nat :=
  let c4_i32 : BitVec 32 := 4#32
  let arg1 : BitVec 32 := BitVec.ofNat 32 (i 1).val
  let v6 : BitVec 32 := Scalar.muli c4_i32 arg1
  let v7 : BitVec 32 := Scalar.addi v6 c0_i32
  let c2_i32_10 : BitVec 32 := 2#32
  let v18 : BitVec 32 := Scalar.minsi v7 c2_i32_10
  let c0_i32_83 : BitVec 32 := 0#32
  let c0_i32_84 : BitVec 32 := 0#32
  let c0_i32_85 : BitVec 32 := 0#32
  ![v18.toNat, 0, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x8x64x208 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttIdeal.lean ====
variable {F : FTy → Type} [FloatOps F] [Named F]
def κ : String → Option EReal := fun
  | "mask" => some ⊥
  | _ => none
-- ==== AttRefIdeal.lean ====
abbrev S8 : Shape := ⟨1, ![8]⟩
abbrev S8x2048x512 : Shape := ⟨3, ![8, 2048, 512]⟩
abbrev S8x2048x256 : Shape := ⟨3, ![8, 2048, 256]⟩
abbrev S16x256 : Shape := ⟨2, ![16, 256]⟩
abbrev S3x8x64x208 : Shape := ⟨4, ![3, 8, 64, 208]⟩
abbrev S256x64x2x4x64 : Shape := ⟨5, ![256, 64, 2, 4, 64]⟩
abbrev S8x2048x128 : Shape := ⟨3, ![8, 2048, 128]⟩
abbrev S16x128 : Shape := ⟨2, ![16, 128]⟩
abbrev S8x2048x2x64 : Shape := ⟨4, ![8, 2048, 2, 64]⟩
abbrev S_ : Shape := ⟨0, ![]⟩
abbrev S8x2176x2x64 : Shape := ⟨4, ![8, 2176, 2, 64]⟩
abbrev S8x34x64x2x64 : Shape := ⟨5, ![8, 34, 64, 2, 64]⟩
abbrev S1x1x16x2x64 : Shape := ⟨5, ![1, 1, 16, 2, 64]⟩
abbrev S8x32x16x2x64 : Shape := ⟨5, ![8, 32, 16, 2, 64]⟩
abbrev S8x32x64x2x64 : Shape := ⟨5, ![8, 32, 64, 2, 64]⟩
abbrev S8x32x208x2x64 : Shape := ⟨5, ![8, 32, 208, 2, 64]⟩
abbrev S256x208x2x64 : Shape := ⟨4, ![256, 208, 2, 64]⟩
abbrev S2x8x64x208 : Shape := ⟨4, ![2, 8, 64, 208]⟩
abbrev S1x8x64x208 : Shape := ⟨4, ![1, 8, 64, 208]⟩
abbrev S30x8x64x208 : Shape := ⟨4, ![30, 8, 64, 208]⟩
abbrev S32x8x64x208 : Shape := ⟨4, ![32, 8, 64, 208]⟩
abbrev S32x8x64x16 : Shape := ⟨4, ![32, 8, 64, 16]⟩
abbrev S32x8x64x192 : Shape := ⟨4, ![32, 8, 64, 192]⟩
abbrev S1x32x8x64x208 : Shape := ⟨5, ![1, 32, 8, 64, 208]⟩
abbrev S8x32x8x64x208 : Shape := ⟨5, ![8, 32, 8, 64, 208]⟩
abbrev S256x2x4x64x208 : Shape := ⟨5, ![256, 2, 4, 64, 208]⟩
abbrev S256 : Shape := ⟨1, ![256]⟩
abbrev S208 : Shape := ⟨1, ![208]⟩
abbrev S1x208 : Shape := ⟨2, ![1, 208]⟩
abbrev S256x1 : Shape := ⟨2, ![256, 1]⟩
abbrev S256x208 : Shape := ⟨2, ![256, 208]⟩
abbrev S256x2x208x64x4 : Shape := ⟨5, ![256, 2, 208, 64, 4]⟩
abbrev S256x1x1x1x208 : Shape := ⟨5, ![256, 1, 1, 1, 208]⟩
abbrev S2x4 : Shape := ⟨2, ![2, 4]⟩
abbrev S1x2x4x1x1 : Shape := ⟨5, ![1, 2, 4, 1, 1]⟩
abbrev S256x2x4x64 : Shape := ⟨4, ![256, 2, 4, 64]⟩
abbrev S256x2x4x64x1 : Shape := ⟨5, ![256, 2, 4, 64, 1]⟩
abbrev S256x2x64x4x64 : Shape := ⟨5, ![256, 2, 64, 4, 64]⟩

abbrev nBuf : Space → Nat
  | .hbm => 125
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x2048x512, .f32⟩
  | .hbm, ⟨2, _⟩ => ⟨S8x2048x256, .f32⟩
  | .hbm, ⟨3, _⟩ => ⟨S16x256, .f32⟩
  | .hbm, ⟨4, _⟩ => ⟨S3x8x64x208, .f32⟩
  | .hbm, ⟨5, _⟩ => ⟨S256x64x2x4x64, .f32⟩
  | .hbm, ⟨6, _⟩ => ⟨S8x2048x128, .f32⟩
  | .hbm, ⟨7, _⟩ => ⟨S16x128, .f32⟩
  | .hbm, ⟨8, _⟩ => ⟨S8x2048x2x64, .f32⟩
  | .hbm, ⟨9, _⟩ => ⟨S_, .i32⟩
  | .hbm, ⟨10, _⟩ => ⟨S_, .f32⟩
  | .hbm, ⟨11, _⟩ => ⟨S8x2176x2x64, .f32⟩
  | .hbm, ⟨12, _⟩ => ⟨S8x34x64x2x64, .f32⟩
  | .hbm, ⟨13, _⟩ => ⟨S1x1x16x2x64, .f32⟩
  | .hbm, ⟨14, _⟩ => ⟨S8x32x16x2x64, .f32⟩
  | .hbm, ⟨15, _⟩ => ⟨S8x32x64x2x64, .f32⟩
  | .hbm, ⟨16, _⟩ => ⟨S8x32x64x2x64, .f32⟩
  | .hbm, ⟨17, _⟩ => ⟨S8x32x64x2x64, .f32⟩
  | .hbm, ⟨18, _⟩ => ⟨S8x32x208x2x64, .f32⟩
  | .hbm, ⟨19, _⟩ => ⟨S256x208x2x64, .f32⟩
  | .hbm, ⟨20, _⟩ => ⟨S8x2048x128, .f32⟩
  | .hbm, ⟨21, _⟩ => ⟨S16x128, .f32⟩
  | .hbm, ⟨22, _⟩ => ⟨S8x2048x2x64, .f32⟩
  | .hbm, ⟨23, _⟩ => ⟨S_, .i32⟩
  | .hbm, ⟨24, _⟩ => ⟨S_, .f32⟩
  | .hbm, ⟨25, _⟩ => ⟨S8x2176x2x64, .f32⟩
  | .hbm, ⟨26, _⟩ => ⟨S8x34x64x2x64, .f32⟩
  | .hbm, ⟨27, _⟩ => ⟨S1x1x16x2x64, .f32⟩
  | .hbm, ⟨28, _⟩ => ⟨S8x32x16x2x64, .f32⟩
  | .hbm, ⟨29, _⟩ => ⟨S8x32x64x2x64, .f32⟩
  | .hbm, ⟨30, _⟩ => ⟨S8x32x64x2x64, .f32⟩
  | .hbm, ⟨31, _⟩ => ⟨S8x32x64x2x64, .f32⟩
  | .hbm, ⟨32, _⟩ => ⟨S8x32x208x2x64, .f32⟩
  | .hbm, ⟨33, _⟩ => ⟨S256x208x2x64, .f32⟩
  | .hbm, ⟨34, _⟩ => ⟨S2x8x64x208, .f32⟩
  | .hbm, ⟨35, _⟩ => ⟨S1x8x64x208, .f32⟩
  | .hbm, ⟨36, _⟩ => ⟨S30x8x64x208, .f32⟩
  | .hbm, ⟨37, _⟩ => ⟨S32x8x64x208, .f32⟩
  | .hbm, ⟨38, _⟩ => ⟨S32x8x64x16, .f32⟩
  | .hbm, ⟨39, _⟩ => ⟨S32x8x64x192, .f32⟩
  | .hbm, ⟨40, _⟩ => ⟨S32x8x64x208, .f32⟩
  | .hbm, ⟨41, _⟩ => ⟨S1x32x8x64x208, .f32⟩
  | .hbm, ⟨42, _⟩ => ⟨S8x32x8x64x208, .f32⟩
  | .hbm, ⟨43, _⟩ => ⟨S256x2x4x64x208, .f32⟩
  | .hbm, ⟨44, _⟩ => ⟨S256, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S_, .i32⟩
  | .hbm, ⟨60, _⟩ => ⟨S_, .i1⟩
  | .hbm, ⟨61, _⟩ => ⟨S256, .i1⟩
  | .hbm, ⟨62, _⟩ => ⟨S256, .i1⟩
  | .hbm, ⟨63, _⟩ => ⟨S256, .i1⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S208, .i32⟩
  | .hbm, ⟨68, _⟩ => ⟨S_, .i32⟩
  | .hbm, ⟨69, _⟩ => ⟨S208, .i32⟩
  | .hbm, ⟨70, _⟩ => ⟨S208, .i32⟩
  | .hbm, ⟨71, _⟩ => ⟨S1x208, .i32⟩
  | .hbm, ⟨72, _⟩ => ⟨S_, .i32⟩
  | .hbm, ⟨73, _⟩ => ⟨S1x208, .i32⟩
  | .hbm, ⟨74, _⟩ => ⟨S1x208, .i1⟩
  | .hbm, ⟨75, _⟩ => ⟨S256x1, .i32⟩
  | .hbm, ⟨76, _⟩ => ⟨S_, .i32⟩
  | .hbm, ⟨77, _⟩ => ⟨S256x1, .i32⟩
  | .hbm, ⟨78, _⟩ => ⟨S256x1, .i32⟩
  | .hbm, ⟨79, _⟩ => ⟨S_, .i32⟩
  | .hbm, ⟨80, _⟩ => ⟨S256x1, .i32⟩
  | .hbm, ⟨81, _⟩ => ⟨S256x1, .i32⟩
  | .hbm, ⟨82, _⟩ => ⟨S1x208, .i32⟩
  | .hbm, ⟨83, _⟩ => ⟨S256x208, .i32⟩
  | .hbm, ⟨84, _⟩ => ⟨S256x208, .i32⟩
  | .hbm, ⟨85, _⟩ => ⟨S256x208, .i32⟩
  | .hbm, ⟨86, _⟩ => ⟨S_, .i32⟩
  | .hbm, ⟨87, _⟩ => ⟨S256x208, .i32⟩
  | .hbm, ⟨88, _⟩ => ⟨S256x208, .i1⟩
  | .hbm, ⟨89, _⟩ => ⟨S256x208, .i1⟩
  | .hbm, ⟨90, _⟩ => ⟨S256x208, .i1⟩
  | .hbm, ⟨91, _⟩ => ⟨S256x2x208x64x4, .f32⟩
  | .hbm, ⟨92, _⟩ => ⟨S256x2x4x64x208, .f32⟩
  | .hbm, ⟨93, _⟩ => ⟨S_, .f32⟩
  | .hbm, ⟨94, _⟩ => ⟨S256x2x4x64x208, .f32⟩
  | .hbm, ⟨95, _⟩ => ⟨S256x2x4x64x208, .f32⟩
  | .hbm, ⟨96, _⟩ => ⟨S256x2x4x64x208, .f32⟩
  | .hbm, ⟨97, _⟩ => ⟨S256x1x1x1x208, .i1⟩
  | .hbm, ⟨98, _⟩ => ⟨S_, .f32⟩
  | .hbm, ⟨99, _⟩ => ⟨S_, .f32⟩
  | .hbm, ⟨100, _⟩ => ⟨S256x2x4x64x208, .i1⟩
  | .hbm, ⟨101, _⟩ => ⟨S256x2x4x64x208, .f32⟩
  | .hbm, ⟨102, _⟩ => ⟨S256x2x4x64x208, .f32⟩
  | .hbm, ⟨103, _⟩ => ⟨S2x4, .f32⟩
  | .hbm, ⟨104, _⟩ => ⟨S1x2x4x1x1, .f32⟩
  | .hbm, ⟨105, _⟩ => ⟨S_, .f32⟩
  | .hbm, ⟨106, _⟩ => ⟨S256x2x4x64, .f32⟩
  | .hbm, ⟨107, _⟩ => ⟨S256x2x4x64x1, .f32⟩
  | .hbm, ⟨108, _⟩ => ⟨S256x2x4x64x1, .f32⟩
  | .hbm, ⟨109, _⟩ => ⟨S256x2x4x64x1, .f32⟩
  | .hbm, ⟨110, _⟩ => ⟨S256x2x4x64x208, .f32⟩
  | .hbm, ⟨111, _⟩ => ⟨S256x2x4x64x208, .f32⟩
  | .hbm, ⟨112, _⟩ => ⟨S256x2x4x64x208, .f32⟩
  | .hbm, ⟨113, _⟩ => ⟨S_, .f32⟩
  | .hbm, ⟨114, _⟩ => ⟨S256x2x4x64, .f32⟩
  | .hbm, ⟨115, _⟩ => ⟨S256x2x4x64x1, .f32⟩
  | .hbm, ⟨116, _⟩ => ⟨S256x2x4x64x1, .f32⟩
  | .hbm, ⟨117, _⟩ => ⟨S256x2x4x64x1, .f32⟩
  | .hbm, ⟨118, _⟩ => ⟨S256x2x4x64x1, .f32⟩
  | .hbm, ⟨119, _⟩ => ⟨S256x2x4x64x1, .f32⟩
  | .hbm, ⟨120, _⟩ => ⟨S256x2x4x64x208, .f32⟩
  | .hbm, ⟨121, _⟩ => ⟨S256x2x4x64x208, .f32⟩
  | .hbm, ⟨122, _⟩ => ⟨S256x2x64x4x64, .f32⟩
  | .hbm, ⟨123, _⟩ => ⟨S256x64x2x4x64, .f32⟩
  | .hbm, ⟨124, _⟩ => ⟨S8x2048x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v36 : Ref sig .tc := ⟨.hbm, 66, rfl⟩
abbrev main_v37 : Ref sig .tc := ⟨.hbm, 67, rfl⟩
abbrev main_c_2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_3 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_4 : Ref sig .tc := ⟨.hbm, 76, rfl⟩
abbrev main_v44 : Ref sig .tc := ⟨.hbm, 77, rfl⟩
abbrev main_v45 : Ref sig .tc := ⟨.hbm, 78, rfl⟩
abbrev main_c_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_6 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_8 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_9 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]
-- ==== Ln.lean ====
abbrev S8x2048x1024 : Shape := ⟨3, ![8, 2048, 1024]⟩
abbrev S1024 : Shape := ⟨1, ![1024]⟩
abbrev S1x1024x2816 : Shape := ⟨3, ![1, 1024, 2816]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x1024 : Shape := ⟨2, ![16384, 1024]⟩
abbrev S1x1024 : Shape := ⟨2, ![1, 1024]⟩
abbrev S1024x2816 : Shape := ⟨2, ![1024, 2816]⟩
abbrev S16384x512 : Shape := ⟨2, ![16384, 512]⟩
abbrev S16384x256 : Shape := ⟨2, ![16384, 256]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩

abbrev nBuf : Space → Nat
  | .hbm => 34
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S2048, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S16384x1024, .f32⟩
  | .hbm, ⟨24, _⟩ => ⟨S1x1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S16384x512, .f32⟩
  | .hbm, ⟨29, _⟩ => ⟨S16384x256, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x512, .f32⟩
  | .local _ .vmem, ⟨10, _⟩ => ⟨S256x512, .f32⟩
  | .local _ .vmem, ⟨11, _⟩ => ⟨S256x256, .f32⟩
  | .local _ .vmem, ⟨12, _⟩ => ⟨S256x256, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LnRefIdeal.lean ====
abbrev S8x2048x1024 : Shape := ⟨3, ![8, 2048, 1024]⟩
abbrev S1024 : Shape := ⟨1, ![1024]⟩
abbrev S1x1024x2816 : Shape := ⟨3, ![1, 1024, 2816]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S8x2048x2816 : Shape := ⟨3, ![8, 2048, 2816]⟩
abbrev S8x2048x512 : Shape := ⟨3, ![8, 2048, 512]⟩
abbrev S8x2048x128 : Shape := ⟨3, ![8, 2048, 128]⟩
abbrev S8x2048x4x128 : Shape := ⟨4, ![8, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S16384x512 : Shape := ⟨2, ![16384, 512]⟩
abbrev S8x2048x256 : Shape := ⟨3, ![8, 2048, 256]⟩
abbrev S16384x256 : Shape := ⟨2, ![16384, 256]⟩

abbrev nBuf : Space → Nat
  | .hbm => 116
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S1024x2816, .f32⟩
  | .hbm, ⟨36, _⟩ => ⟨S8x2048x2816, .f32⟩
  | .hbm, ⟨37, _⟩ => ⟨S8x2048x512, .f32⟩
  | .hbm, ⟨38, _⟩ => ⟨S8x2048x128, .f32⟩
  | .hbm, ⟨39, _⟩ => ⟨S8x2048x128, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x4x128, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S2048x1, .f32⟩
  | .hbm, ⟨54, _⟩ => ⟨S1x64, .f32⟩
  | .hbm, ⟨55, _⟩ => ⟨S2048x64, .f32⟩
  | .hbm, ⟨56, _⟩ => ⟨S2048x64, .f32⟩
  | .hbm, ⟨57, _⟩ => ⟨S2048x64, .f32⟩
  | .hbm, ⟨58, _⟩ => ⟨S2048x64, .f32⟩
  | .hbm, ⟨59, _⟩ => ⟨S1x2048x1x64, .f32⟩
  | .hbm, ⟨60, _⟩ => ⟨S2048x64, .f32⟩
  | .hbm, ⟨61, _⟩ => ⟨S1x2048x1x64, .f32⟩
  | .hbm, ⟨62, _⟩ => ⟨S8x2048x4x64, .f32⟩
  | .hbm, ⟨63, _⟩ => ⟨S8x2048x4x64, .f32⟩
  | .hbm, ⟨64, _⟩ => ⟨S8x2048x4x64, .f32⟩
  | .hbm, ⟨65, _⟩ => ⟨S8x2048x4x64, .f32⟩
  | .hbm, ⟨66, _⟩ => ⟨S8x2048x4x64, .f32⟩
  | .hbm, ⟨67, _⟩ => ⟨S8x2048x4x64, .f32⟩
  | .hbm, ⟨68, _⟩ => ⟨S8x2048x4x64, .f32⟩
  | .hbm, ⟨69, _⟩ => ⟨S8x2048x4x64, .f32⟩
  | .hbm, ⟨70, _⟩ => ⟨S8x2048x4x64, .f32⟩
  | .hbm, ⟨71, _⟩ => ⟨S8x2048x4x64, .f32⟩
  | .hbm, ⟨72, _⟩ => ⟨S8x2048x4x64, .f32⟩
  | .hbm, ⟨73, _⟩ => ⟨S8x2048x4x64, .f32⟩
  | .hbm, ⟨74, _⟩ => ⟨S8x2048x4x128, .f32⟩
  | .hbm, ⟨75, _⟩ => ⟨S8x2048x4x128, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S2048x1, .f32⟩
  | .hbm, ⟨85, _⟩ => ⟨S1x64, .f32⟩
  | .hbm, ⟨86, _⟩ => ⟨S2048x64, .f32⟩
  | .hbm, ⟨87, _⟩ => ⟨S2048x64, .f32⟩
  | .hbm, ⟨88, _⟩ => ⟨S2048x64, .f32⟩
  | .hbm, ⟨89, _⟩ => ⟨S2048x64, .f32⟩
  | .hbm, ⟨90, _⟩ => ⟨S1x2048x1x64, .f32⟩
  | .hbm, ⟨91, _⟩ => ⟨S2048x64, .f32⟩
  | .hbm, ⟨92, _⟩ => ⟨S1x2048x1x64, .f32⟩
  | .hbm, ⟨93, _⟩ => ⟨S8x2048x4x64, .f32⟩
  | .hbm, ⟨94, _⟩ => ⟨S8x2048x4x64, .f32⟩
  | .hbm, ⟨95, _⟩ => ⟨S8x2048x4x64, .f32⟩
  | .hbm, ⟨96, _⟩ => ⟨S8x2048x4x64, .f32⟩
  | .hbm, ⟨97, _⟩ => ⟨S8x2048x4x64, .f32⟩
  | .hbm, ⟨98, _⟩ => ⟨S8x2048x4x64, .f32⟩
  | .hbm, ⟨99, _⟩ => ⟨S8x2048x4x64, .f32⟩
  | .hbm, ⟨100, _⟩ => ⟨S8x2048x4x64, .f32⟩
  | .hbm, ⟨101, _⟩ => ⟨S8x2048x4x64, .f32⟩
  | .hbm, ⟨102, _⟩ => ⟨S8x2048x4x64, .f32⟩
  | .hbm, ⟨103, _⟩ => ⟨S8x2048x4x64, .f32⟩
  | .hbm, ⟨104, _⟩ => ⟨S8x2048x4x64, .f32⟩
  | .hbm, ⟨105, _⟩ => ⟨S8x2048x4x128, .f32⟩
  | .hbm, ⟨106, _⟩ => ⟨S_, .f32⟩
  | .hbm, ⟨107, _⟩ => ⟨S8x2048x4x128, .f32⟩
  | .hbm, ⟨108, _⟩ => ⟨S8x2048x4x128, .f32⟩
  | .hbm, ⟨109, _⟩ => ⟨S16384x512, .f32⟩
  | .hbm, ⟨110, _⟩ => ⟨S8x2048x256, .f32⟩
  | .hbm, ⟨111, _⟩ => ⟨S16384x256, .f32⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩

abbrev nD : Nat := 1
abbrev τ : Topo := Topo.v7x

variable {F : FTy → Type} [FloatOps F]
-- ==== Mix.lean ====
abbrev S8x2048x1024 : Shape := ⟨3, ![8, 2048, 1024]⟩
abbrev S16384x512 : Shape := ⟨2, ![16384, 512]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S1x8x2x128x64 : Shape := ⟨5, ![1, 8, 2, 128, 64]⟩
abbrev S56 : Shape := ⟨1, ![56]⟩
abbrev S56x256 : Shape := ⟨2, ![56, 256]⟩
abbrev S16384x1024 : Shape := ⟨2, ![16384, 1024]⟩
abbrev S512 : Shape := ⟨1, ![512]⟩
abbrev S1024x1024 : Shape := ⟨2, ![1024, 1024]⟩
abbrev S8x2x128x64 : Shape := ⟨4, ![8, 2, 128, 64]⟩
abbrev S_ : Shape := ⟨0, ![]⟩
abbrev S8x128x64 : Shape := ⟨3, ![8, 128, 64]⟩
abbrev S8x1x128x64 : Shape := ⟨4, ![8, 1, 128, 64]⟩
abbrev S8x128x128 : Shape := ⟨3, ![8, 128, 128]⟩
abbrev S8x256x128 : Shape := ⟨3, ![8, 256, 128]⟩
abbrev S128x16384 : Shape := ⟨2, ![128, 16384]⟩
abbrev S256x1024 : Shape := ⟨2, ![256, 1024]⟩
abbrev S256x512 : Shape := ⟨2, ![256, 512]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S1x256x128 : Shape := ⟨3, ![1, 256, 128]⟩
abbrev S256x256 : Shape := ⟨2, ![256, 256]⟩
abbrev S8x256 : Shape := ⟨2, ![8, 256]⟩
abbrev S1x256 : Shape := ⟨2, ![1, 256]⟩
abbrev S16x256 : Shape := ⟨2, ![16, 256]⟩

abbrev nBuf : Space → Nat
  | .hbm => 41
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024, .f32⟩
  | .hbm, ⟨5, _⟩ => ⟨S1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x8x2x128x64, .f32⟩
  | .hbm, ⟨12, _⟩ => ⟨S56, .i32⟩
  | .hbm, ⟨13, _⟩ => ⟨S56x256, .i32⟩
  | .hbm, ⟨14, _⟩ => ⟨S16384x1024, .f32⟩
  | .hbm, ⟨15, _⟩ => ⟨S1x1024, .f32⟩
  | .hbm, ⟨16, _⟩ => ⟨S1x1024, .f32⟩
  | .hbm, ⟨17, _⟩ => ⟨S512, .f32⟩
  | .hbm, ⟨18, _⟩ => ⟨S1x512, .f32⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S8x2x128x64, .f32⟩
  | .hbm, ⟨28, _⟩ => ⟨S_, .f32⟩
  | .hbm, ⟨29, _⟩ => ⟨S8x128x64, .f32⟩
  | .hbm, ⟨30, _⟩ => ⟨S8x1x128x64, .f32⟩
  | .hbm, ⟨31, _⟩ => ⟨S8x128x64, .f32⟩
  | .hbm, ⟨32, _⟩ => ⟨S8x128x128, .f32⟩
  | .hbm, ⟨33, _⟩ => ⟨S8x1x128x64, .f32⟩
  | .hbm, ⟨34, _⟩ => ⟨S8x128x64, .f32⟩
  | .hbm, ⟨35, _⟩ => ⟨S8x128x128, .f32⟩
  | .hbm, ⟨36, _⟩ => ⟨S8x256x128, .f32⟩
  | .hbm, ⟨37, _⟩ => ⟨S8x256x128, .bf16⟩
  | .hbm, ⟨38, _⟩ => ⟨S16384x1024, .f32⟩
  | .hbm, ⟨39, _⟩ => ⟨S128x16384, .i32⟩
  | .hbm, ⟨40, _⟩ => ⟨S128x16384, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S1x1024, .f32⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S8x256x128, .bf16⟩
  | .local _ .vmem, ⟨16, _⟩ => ⟨S56x256, .i32⟩
  | .local _ .vmem, ⟨17, _⟩ => ⟨S256x1024, .f32⟩
  | .local _ .vmem, ⟨18, _⟩ => ⟨S256x1024, .f32⟩
  | .local _ .vmem, ⟨19, _⟩ => ⟨S128x256, .i32⟩
  | .local _ .vmem, ⟨20, _⟩ => ⟨S128x256, .i32⟩
  | .local _ .vmem, ⟨21, _⟩ => ⟨S128x256, .f32⟩
  | .local _ .vmem, ⟨22, _⟩ => ⟨S128x256, .f32⟩
  | .local _ .vmem, ⟨23, _⟩ => ⟨S8x256x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v197 : BitVec 32 := Scalar.addi c0_i32 c2_i32
  let c1_i32 : BitVec 32 := 1#32
  ⟨c0_i32, v197, c1_i32⟩
def k0_off1 (k0_t1 : Fin k0_t1_loop.trips) (c0_i32_73 : BitVec 32) : Fin 3 → Nat :=
  let c0_i32 : BitVec 32 := 0#32
  let c1_i32 : BitVec 32 := 1#32
  let arg18 : BitVec 32 := Scf.iv c0_i32 c1_i32 k0_t1
  let v198 : BitVec 32 := Scalar.addi arg18 c0_i32_73
  let v199 : Index := Scalar.indexCast v198
  let c0_74 : Index := 0#32
  let c0_75 : Index := 0#32
  ![v199.toNat, 0, 0]
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c0_i32_73 : BitVec 32 := 0#32
  let v198 : BitVec 32 := Scalar.addi arg18 c0_i32_73
  let c16_i32_306 : BitVec 32 := 16#32
  let v2731 : BitVec 32 := Scalar.muli v198 c16_i32_306
  v2731
def k0_off2 (k0_t1 : Fin k0_t1_loop.trips) (c0_i32_73 : BitVec 32) : Fin 2 → Nat :=
  let c0_i32 : BitVec 32 := 0#32
  let c1_i32 : BitVec 32 := 1#32
  let arg18 : BitVec 32 := Scf.iv c0_i32 c1_i32 k0_t1
  let v198 : BitVec 32 := Scalar.addi arg18 c0_i32_73
  let c16_i32_306 : BitVec 32 := 16#32
  let v2731 : BitVec 32 := Scalar.muli v198 c16_i32_306
  let v2732 : BitVec 32 := v2731
  let v2734 : Index := Scalar.indexCast v2732
  let c0_307 : Index := 0#32
  ![v2734.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c2_i32_309 : BitVec 32 := 2#32
  let v2738 : BitVec 32 := Scalar.addi arg18 c2_i32_309
  let c16_i32_559 : BitVec 32 := 16#32
  let v5271 : BitVec 32 := Scalar.muli v2738 c16_i32_559
  v5271
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c4_i32 : BitVec 32 := 4#32
  let v5278 : BitVec 32 := Scalar.addi arg18 c4_i32
  let c16_i32_811 : BitVec 32 := 16#32
  let v7811 : BitVec 32 := Scalar.muli v5278 c16_i32_811
  v7811
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c6_i32 : BitVec 32 := 6#32
  let v7818 : BitVec 32 := Scalar.addi arg18 c6_i32
  let c16_i32_1063 : BitVec 32 := 16#32
  let v10351 : BitVec 32 := Scalar.muli v7818 c16_i32_1063
  v10351
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S56x256 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S8x2048x1024 : Shape := ⟨3, ![8, 2048, 1024]⟩
abbrev S16384x512 : Shape := ⟨2, ![16384, 512]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S1x8x2x128x64 : Shape := ⟨5, ![1, 8, 2, 128, 64]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x4x128 : Shape := ⟨3, ![16384, 4, 128]⟩
abbrev S16384x4 : Shape := ⟨2, ![16384, 4]⟩
abbrev S16384x4x1 : Shape := ⟨3, ![16384, 4, 1]⟩
abbrev S512 : Shape := ⟨1, ![512]⟩
abbrev S1024x1024 : Shape := ⟨2, ![1024, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024, .f32⟩
  | .hbm, ⟨5, _⟩ => ⟨S1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x8x2x128x64, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x4x128, .f32⟩
  | .hbm, ⟨43, _⟩ => ⟨S_, .f32⟩
  | .hbm, ⟨44, _⟩ => ⟨S16384x4, .f32⟩
  | .hbm, ⟨45, _⟩ => ⟨S16384x4x1, .f32⟩
  | .hbm, ⟨46, _⟩ => ⟨S_, .f32⟩
  | .hbm, ⟨47, _⟩ => ⟨S16384x4x1, .f32⟩
  | .hbm, ⟨48, _⟩ => ⟨S16384x4x1, .f32⟩
  | .hbm, ⟨49, _⟩ => ⟨S16384x4x128, .f32⟩
  | .hbm, ⟨50, _⟩ => ⟨S16384x4x128, .f32⟩
  | .hbm, ⟨51, _⟩ => ⟨S16384x4x128, .f32⟩
  | .hbm, ⟨52, _⟩ => ⟨S_, .f32⟩
  | .hbm, ⟨53, _⟩ => ⟨S16384x4, .f32⟩
  | .hbm, ⟨54, _⟩ => ⟨S16384x4x1, .f32⟩
  | .hbm, ⟨55, _⟩ => ⟨S_, .f32⟩
  | .hbm, ⟨56, _⟩ => ⟨S16384x4x1, .f32⟩
  | .hbm, ⟨57, _⟩ => ⟨S16384x4x1, .f32⟩
  | .hbm, ⟨58, _⟩ => ⟨S16384x4x128, .f32⟩
  | .hbm, ⟨59, _⟩ => ⟨S16384x4x128, .f32⟩
  | .hbm, ⟨60, _⟩ => ⟨S_, .f32⟩
  | .hbm, ⟨61, _⟩ => ⟨S16384x4x1, .f32⟩
  | .hbm, ⟨62, _⟩ => ⟨S16384x4x1, .f32⟩
  | .hbm, ⟨63, _⟩ => ⟨S16384x4x1, .f32⟩
  | .hbm, ⟨64, _⟩ => ⟨S16384x4x128, .f32⟩
  | .hbm, ⟨65, _⟩ => ⟨S16384x4x128, .f32⟩
  | .hbm, ⟨66, _⟩ => ⟨S16384x512, .f32⟩
  | .hbm, ⟨67, _⟩ => ⟨S512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S16384x512, .f32⟩
  | .hbm, ⟨75, _⟩ => ⟨S16384x512, .f32⟩
  | .hbm, ⟨76, _⟩ => ⟨S_, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x1024, .f32⟩
  | .hbm, ⟨82, _⟩ => ⟨S1024x1024, .f32⟩
  | .hbm, ⟨83, _⟩ => ⟨S16384x1024, .f32⟩
  | .hbm, ⟨84, _⟩ => ⟨S_, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S1024, .f32⟩
  | .hbm, ⟨89, _⟩ => ⟨S1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384, .f32⟩
  | .hbm, ⟨101, _⟩ => ⟨S16384x1, .f32⟩
  | .hbm, ⟨102, _⟩ => ⟨S_, .f32⟩
  | .hbm, ⟨103, _⟩ => ⟨S16384x1, .f32⟩
  | .hbm, ⟨104, _⟩ => ⟨S16384x1, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S16384x1024, .f32⟩
  | .hbm, ⟨112, _⟩ => ⟨S16384x1024, .f32⟩
  | .hbm, ⟨113, _⟩ => ⟨S1x1024, .f32⟩
  | .hbm, ⟨114, _⟩ => ⟨S16384x1024, .f32⟩
  | .hbm, ⟨115, _⟩ => ⟨S16384x1024, .f32⟩
  | .hbm, ⟨116, _⟩ => ⟨S1x1024, .f32⟩
  | .hbm, ⟨117, _⟩ => ⟨S16384x1024, .f32⟩
  | .hbm, ⟨118, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== LnS.lean ====
abbrev S8x64x1024 : Shape := ⟨3, ![8, 64, 1024]⟩
abbrev S1024 : Shape := ⟨1, ![1024]⟩
abbrev S1x1024x2816 : Shape := ⟨3, ![1, 1024, 2816]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S512x1024 : Shape := ⟨2, ![512, 1024]⟩
abbrev S1x1024 : Shape := ⟨2, ![1, 1024]⟩
abbrev S1024x2816 : Shape := ⟨2, ![1024, 2816]⟩
abbrev S512x512 : Shape := ⟨2, ![512, 512]⟩
abbrev S512x256 : Shape := ⟨2, ![512, 256]⟩
abbrev S64x1024 : Shape := ⟨2, ![64, 1024]⟩
abbrev S64x512 : Shape := ⟨2, ![64, 512]⟩
abbrev S64x256 : Shape := ⟨2, ![64, 256]⟩
abbrev S64x2816 : Shape := ⟨2, ![64, 2816]⟩

abbrev nBuf : Space → Nat
  | .hbm => 34
  | .vmem => 19
  | .smem => 0
  | _ => 0

abbrev bufTy : (tb : Table) → Fin (tcTables nBuf tb) → BufTy
  | .hbm, ⟨0, _⟩ => ⟨S8x64x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S1x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x128, .f32⟩
  | .hbm, ⟨21, _⟩ => ⟨S64x64, .f32⟩
  | .hbm, ⟨22, _⟩ => ⟨S64x128, .f32⟩
  | .hbm, ⟨23, _⟩ => ⟨S512x1024, .f32⟩
  | .hbm, ⟨24, _⟩ => ⟨S1x1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S512x512, .f32⟩
  | .hbm, ⟨29, _⟩ => ⟨S512x256, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .local _ .vmem, ⟨0, _⟩ => ⟨S64x1024, .f32⟩
  | .local _ .vmem, ⟨1, _⟩ => ⟨S64x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S64x128, .f32⟩
  | .local _ .vmem, ⟨6, _⟩ => ⟨S64x128, .f32⟩
  | .local _ .vmem, ⟨7, _⟩ => ⟨S64x512, .f32⟩
  | .local _ .vmem, ⟨8, _⟩ => ⟨S64x512, .f32⟩
  | .local _ .vmem, ⟨9, _⟩ => ⟨S64x256, .f32⟩
  | .local _ .vmem, ⟨10, _⟩ => ⟨S64x256, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LnSRefIdeal.lean ====
abbrev S8x64x1024 : Shape := ⟨3, ![8, 64, 1024]⟩
abbrev S1024 : Shape := ⟨1, ![1024]⟩
abbrev S1x1024x2816 : Shape := ⟨3, ![1, 1024, 2816]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x2816 : Shape := ⟨2, ![1024, 2816]⟩
abbrev S8x64x2816 : Shape := ⟨3, ![8, 64, 2816]⟩
abbrev S8x64x256 : Shape := ⟨3, ![8, 64, 256]⟩
abbrev S512x256 : Shape := ⟨2, ![512, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S_, .f32⟩
  | .hbm, ⟨5, _⟩ => ⟨S8x64, .f32⟩
  | .hbm, ⟨6, _⟩ => ⟨S8x64x1, .f32⟩
  | .hbm, ⟨7, _⟩ => ⟨S_, .f32⟩
  | .hbm, ⟨8, _⟩ => ⟨S8x64x1, .f32⟩
  | .hbm, ⟨9, _⟩ => ⟨S8x64x1, .f32⟩
  | .hbm, ⟨10, _⟩ => ⟨S8x64x1024, .f32⟩
  | .hbm, ⟨11, _⟩ => ⟨S8x64x1024, .f32⟩
  | .hbm, ⟨12, _⟩ => ⟨S8x64x1024, .f32⟩
  | .hbm, ⟨13, _⟩ => ⟨S_, .f32⟩
  | .hbm, ⟨14, _⟩ => ⟨S8x64, .f32⟩
  | .hbm, ⟨15, _⟩ => ⟨S8x64x1, .f32⟩
  | .hbm, ⟨16, _⟩ => ⟨S_, .f32⟩
  | .hbm, ⟨17, _⟩ => ⟨S8x64x1, .f32⟩
  | .hbm, ⟨18, _⟩ => ⟨S8x64x1, .f32⟩
  | .hbm, ⟨19, _⟩ => ⟨S8x64x1024, .f32⟩
  | .hbm, ⟨20, _⟩ => ⟨S8x64x1024, .f32⟩
  | .hbm, ⟨21, _⟩ => ⟨S_, .f32⟩
  | .hbm, ⟨22, _⟩ => ⟨S8x64x1, .f32⟩
  | .hbm, ⟨23, _⟩ => ⟨S8x64x1, .f32⟩
  | .hbm, ⟨24, _⟩ => ⟨S8x64x1, .f32⟩
  | .hbm, ⟨25, _⟩ => ⟨S8x64x1024, .f32⟩
  | .hbm, ⟨26, _⟩ => ⟨S8x64x1024, .f32⟩
  | .hbm, ⟨27, _⟩ => ⟨S1x1x1024, .f32⟩
  | .hbm, ⟨28, _⟩ => ⟨S8x64x1024, .f32⟩
  | .hbm, ⟨29, _⟩ => ⟨S8x64x1024, .f32⟩
  | .hbm, ⟨30, _⟩ => ⟨S1x1x1024, .f32⟩
  | .hbm, ⟨31, _⟩ => ⟨S8x64x1024, .f32⟩
  | .hbm, ⟨32, _⟩ => ⟨S8x64x1024, .f32⟩
  | .hbm, ⟨33, _⟩ => ⟨S1024x2816, .f32⟩
  | .hbm, ⟨34, _⟩ => ⟨S8x64x2816, .f32⟩
  | .hbm, ⟨35, _⟩ => ⟨S8x64x256, .f32⟩
  | .hbm, ⟨36, _⟩ => ⟨S512x256, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== LnM.lean ====
abbrev S16x1024 : Shape := ⟨2, ![16, 1024]⟩
abbrev S1024 : Shape := ⟨1, ![1024]⟩
abbrev S1x1024x2816 : Shape := ⟨3, ![1, 1024, 2816]⟩
abbrev S16 : Shape := ⟨1, ![16]⟩
abbrev S64 : Shape := ⟨1, ![64]⟩
abbrev S_ : Shape := ⟨0, ![]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x1024 : Shape := ⟨2, ![1, 1024]⟩
abbrev S1024x2816 : Shape := ⟨2, ![1024, 2816]⟩
abbrev S16x512 : Shape := ⟨2, ![16, 512]⟩
abbrev S16x256 : Shape := ⟨2, ![16, 256]⟩
abbrev S16x2816 : Shape := ⟨2, ![16, 2816]⟩

abbrev nBuf : Space → Nat
  | .hbm => 33
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S16, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S16x1, .f32⟩
  | .hbm, ⟨14, _⟩ => ⟨S1x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x128, .f32⟩
  | .hbm, ⟨21, _⟩ => ⟨S16x64, .f32⟩
  | .hbm, ⟨22, _⟩ => ⟨S16x128, .f32⟩
  | .hbm, ⟨23, _⟩ => ⟨S1x1024, .f32⟩
  | .hbm, ⟨24, _⟩ => ⟨S1x1024, .f32⟩
  | .hbm, ⟨25, _⟩ => ⟨S1024x2816, .f32⟩
  | .hbm, ⟨26, _⟩ => ⟨S1024x2816, .bf16⟩
  | .hbm, ⟨27, _⟩ => ⟨S16x512, .f32⟩
  | .hbm, ⟨28, _⟩ => ⟨S16x256, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S16x512, .f32⟩
  | .local _ .vmem, ⟨0, _⟩ => ⟨S16x1024, .f32⟩
  | .local _ .vmem, ⟨1, _⟩ => ⟨S1x1024, .f32⟩
  | .local _ .vmem, ⟨2, _⟩ => ⟨S1x1024, .f32⟩
  | .local _ .vmem, ⟨3, _⟩ => ⟨S1024x2816, .bf16⟩
  | .local _ .vmem, ⟨4, _⟩ => ⟨S16x128, .f32⟩
  | .local _ .vmem, ⟨5, _⟩ => ⟨S16x128, .f32⟩
  | .local _ .vmem, ⟨6, _⟩ => ⟨S16x512, .f32⟩
  | .local _ .vmem, ⟨7, _⟩ => ⟨S16x256, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev main_v20_4 : Ref sig .tc := ⟨.hbm, 31, rfl⟩
abbrev main_v20_5 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S16x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== LnMRefIdeal.lean ====
abbrev S16x1024 : Shape := ⟨2, ![16, 1024]⟩
abbrev S1024 : Shape := ⟨1, ![1024]⟩
abbrev S1x1024x2816 : Shape := ⟨3, ![1, 1024, 2816]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S1024x2816 : Shape := ⟨2, ![1024, 2816]⟩
abbrev S16x2816 : Shape := ⟨2, ![16, 2816]⟩
abbrev S16x256 : Shape := ⟨2, ![16, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024, .f32⟩
  | .hbm, ⟨3, _⟩ => ⟨S1x1024x2816, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16x1, .f32⟩
  | .hbm, ⟨9, _⟩ => ⟨S16x1, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16, .f32⟩
  | .hbm, ⟨15, _⟩ => ⟨S16x1, .f32⟩
  | .hbm, ⟨16, _⟩ => ⟨S_, .f32⟩
  | .hbm, ⟨17, _⟩ => ⟨S16x1, .f32⟩
  | .hbm, ⟨18, _⟩ => ⟨S16x1, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x1024, .f32⟩
  | .hbm, ⟨26, _⟩ => ⟨S16x1024, .f32⟩
  | .hbm, ⟨27, _⟩ => ⟨S1x1024, .f32⟩
  | .hbm, ⟨28, _⟩ => ⟨S16x1024, .f32⟩
  | .hbm, ⟨29, _⟩ => ⟨S16x1024, .f32⟩
  | .hbm, ⟨30, _⟩ => ⟨S1x1024, .f32⟩
  | .hbm, ⟨31, _⟩ => ⟨S16x1024, .f32⟩
  | .hbm, ⟨32, _⟩ => ⟨S16x1024, .f32⟩
  | .hbm, ⟨33, _⟩ => ⟨S1024x2816, .f32⟩
  | .hbm, ⟨34, _⟩ => ⟨S16x2816, .f32⟩
  | .hbm, ⟨35, _⟩ => ⟨S16x256, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.LnTerm.lean ====
/- The input projection's reference, read as terms over its four argument arrays: the layer norm, the product with
   the projection weights, the rotary tables and the six results. `results` says the reference's run ends at them. -/
module

public import proofs.«01_k».proof.Proof.Gen.LnRefIdeal
public import proofs.«01_k».proof.Proof.Gen.LnRefIdeal.Run
public import Idealize.ShloMosaic.Lib.Pointwise

@[expose] public section

set_option maxRecDepth 16384

noncomputable section

namespace Cert.LnRefIdeal.Term

open Cert.LnRefIdeal Cert.LnRefIdeal.Gen Idealize.ShloMosaic Idealize.ShloMosaic.TcCoe Idealize.SL.Sem

/-- The mean of every row, kept as a column. -/
def rowMean (X : FVec Ideal S8x2048x1024 .f32) : FVec Ideal S8x2048x1 .f32 :=
  Host.divf (broadcastInDim S8x2048x1 ![0, 1] bcast_S8x2048_S8x2048x1_0_1
      (Host.reduceAdd X (constant S_ .f32 0x00000000#32) reducesTo_S8x2048x1024_S8x2048_d2 h_S_))
    (broadcastInDim S8x2048x1 ![] bcast_S_S8x2048x1 (constant S_ .f32 0x44800000#32))

/-- Every row less its mean. -/
def centred (X : FVec Ideal S8x2048x1024 .f32) : FVec Ideal S8x2048x1024 .f32 :=
  subf X (broadcastInDim S8x2048x1024 ![0, 1, 2] bcast_S8x2048x1_S8x2048x1024_0_1_2 (rowMean X))

/-- The layer norm of `X` with gain `g` and shift `b`. -/
def normed (X : FVec Ideal S8x2048x1024 .f32) (g b : FVec Ideal S1024 .f32) : FVec Ideal S8x2048x1024 .f32 :=
  addf (mulf (mulf (centred X) (broadcastInDim S8x2048x1024 ![0, 1, 2] bcast_S8x2048x1_S8x2048x1024_0_1_2
      (Host.rsqrt (addf (rowMean (mulf (centred X) (centred X)))
        (broadcastInDim S8x2048x1 ![] bcast_S_S8x2048x1 (constant S_ .f32 0x3727C5AC#32))))))
      (broadcastInDim S8x2048x1024 ![0, 1, 2] bcast_S1x1x1024_S8x2048x1024_0_1_2
        (broadcastInDim S1x1x1024 ![2] bcast_S1024_S1x1x1024_2 g)))
    (broadcastInDim S8x2048x1024 ![0, 1, 2] bcast_S1x1x1024_S8x2048x1024_0_1_2
      (broadcastInDim S1x1x1024 ![2] bcast_S1024_S1x1x1024_2 b))

/-- The normed rows times the projection weights. -/
def proj (X : FVec Ideal S8x2048x1024 .f32) (g b : FVec Ideal S1024 .f32) (W : FVec Ideal S1x1024x2816 .f32) :
    FVec Ideal S8x2048x2816 .f32 :=
  Host.dotGeneral dot_S8x2048x1024_S1024x2816_S8x2048x2816_2_0_01_1_n_n none (normed X g b)
    (shapeCast _ W shapeCasts_S1x1024x2816_S1024x2816)

/-- The rotary angle of each position and frequency, the positions given by their bit patterns. -/
def angle (lit : Fin 2048 → BitVec 32) : FVec Ideal S2048x64 .f32 :=
  mulf (broadcastInDim S2048x64 ![0, 1] bcast_S2048x1_S2048x64_0_1 (broadcastInDim S2048x1 ![0] bcast_S2048_S2048x1_0
      ((fun i => FloatOps.ofBits .f32 (lit (S2048.rowMajor i))))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0)))
          (broadcastInDim S64 ![] bcast_S_S64 (constant S_ .f32 0x42800000#32))))))

/-- A table over position and frequency, repeated over batch and head. -/
def spread (T : FVec Ideal S2048x64 .f32) : FVec Ideal S8x2048x4x64 .f32 :=
  broadcastInDim S8x2048x4x64 ![0, 1, 2, 3] bcast_S1x2048x1x64_S8x2048x4x64_0_1_2_3
    (broadcastInDim S1x2048x1x64 ![1, 3] bcast_S2048x64_S1x2048x1x64_1_3 T)

/-- The rotary embedding of four heads of 128 lanes with cosine table `C` and sine table `D`. -/
def rotary (C D : FVec Ideal S2048x64 .f32) (p : FVec Ideal S8x2048x512 .f32) : FVec Ideal S8x2048x4x128 .f32 :=
  concatenate S8x2048x4x128 3
    [⟨S8x2048x4x64, subf
      (mulf (extractStridedSlice S8x2048x4x64 ![0, 0, 0, 0] (shapeCast _ p shapeCasts_S8x2048x512_S8x2048x4x128) slices_S8x2048x4x128_S8x2048x4x64_0_0_0_0) (spread C))
      (mulf (extractStridedSlice S8x2048x4x64 ![0, 0, 0, 64] (shapeCast _ p shapeCasts_S8x2048x512_S8x2048x4x128) slices_S8x2048x4x128_S8x2048x4x64_0_0_0_64) (spread D))⟩,
     ⟨S8x2048x4x64, addf
      (mulf (extractStridedSlice S8x2048x4x64 ![0, 0, 0, 0] (shapeCast _ p shapeCasts_S8x2048x512_S8x2048x4x128) slices_S8x2048x4x128_S8x2048x4x64_0_0_0_0) (spread D))
      (mulf (extractStridedSlice S8x2048x4x64 ![0, 0, 0, 64] (shapeCast _ p shapeCasts_S8x2048x512_S8x2048x4x128) slices_S8x2048x4x128_S8x2048x4x64_0_0_0_64) (spread C))⟩]
    concatenates_S8x2048x4x64_S8x2048x4x64_S8x2048x4x128_d3

/-- The six results over the projection `p`: queries; keys beside values; retention queries, keys, values, gates. -/
def refQ (p : FVec Ideal S8x2048x2816 .f32) : FVec Ideal S16384x512 .f32 :=
  shapeCast _ (extractStridedSlice S8x2048x512 ![0, 0, 0] p slices_S8x2048x2816_S8x2048x512_0_0_0) shapeCasts_S8x2048x512_S16384x512
@[inherit_doc refQ] def refKV (p : FVec Ideal S8x2048x2816 .f32) : FVec Ideal S16384x256 .f32 :=
  shapeCast _ (concatenate S8x2048x256 2 [⟨S8x2048x128, extractStridedSlice S8x2048x128 ![0, 0, 512] p slices_S8x2048x2816_S8x2048x128_0_0_512⟩,
    ⟨S8x2048x128, extractStridedSlice S8x2048x128 ![0, 0, 640] p slices_S8x2048x2816_S8x2048x128_0_0_640⟩]
    concatenates_S8x2048x128_S8x2048x128_S8x2048x256_d2) shapeCasts_S8x2048x256_S16384x256
@[inherit_doc refQ] def refRQ (C D : FVec Ideal S2048x64 .f32) (p : FVec Ideal S8x2048x2816 .f32) : FVec Ideal S16384x512 .f32 :=
  shapeCast _ (rotary C D (extractStridedSlice S8x2048x512 ![0, 0, 768] p slices_S8x2048x2816_S8x2048x512_0_0_768)) shapeCasts_S8x2048x4x128_S16384x512
@[inherit_doc refQ] def refRK (C D : FVec Ideal S2048x64 .f32) (p : FVec Ideal S8x2048x2816 .f32) : FVec Ideal S16384x512 .f32 :=
  shapeCast _ (mulf (rotary C D (extractStridedSlice S8x2048x512 ![0, 0, 1280] p slices_S8x2048x2816_S8x2048x512_0_0_1280))
    (broadcastInDim S8x2048x4x128 ![] bcast_S_S8x2048x4x128 (constant S_ .f32 0x3DB504F3#32))) shapeCasts_S8x2048x4x128_S16384x512
@[inherit_doc refQ] def refRV (p : FVec Ideal S8x2048x2816 .f32) : FVec Ideal S16384x512 .f32 :=
  shapeCast _ (extractStridedSlice S8x2048x512 ![0, 0, 1792] p slices_S8x2048x2816_S8x2048x512_0_0_1792) shapeCasts_S8x2048x512_S16384x512
@[inherit_doc refQ] def refRG (p : FVec Ideal S8x2048x2816 .f32) : FVec Ideal S16384x512 .f32 :=
  shapeCast _ (extractStridedSlice S8x2048x512 ![0, 0, 2304] p slices_S8x2048x2816_S8x2048x512_0_0_2304) shapeCasts_S8x2048x512_S16384x512

/-- The projection of the launch memory's arguments. -/
def projAt (m : (ℓ : Loc nD τ sig) → Buf (Elt Ideal) ℓ) (c : Dev nD) : FVec Ideal S8x2048x2816 .f32 :=
  proj (m ((c.tc : Thread nD τ).loc main_arg0)) (m ((c.tc : Thread nD τ).loc main_arg1))
    (m ((c.tc : Thread nD τ).loc main_arg2)) (m ((c.tc : Thread nD τ).loc main_arg3))

set_option maxHeartbeats 1600000 in
/-- Every run of the reference ends with the six results at these terms and its arguments unchanged. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = refQ (projAt m c)
      ∧ r.2.mem ((c.tc : Thread nD τ).loc main_v95) = refKV (projAt m c)
      ∧ r.2.mem ((c.tc : Thread nD τ).loc main_v96) = refRQ (Host.cos (angle lit0)) (Host.sin (angle lit0)) (projAt m c)
      ∧ r.2.mem ((c.tc : Thread nD τ).loc main_v97) = refRK (Host.cos (angle lit1)) (Host.sin (angle lit1)) (projAt m c)
      ∧ r.2.mem ((c.tc : Thread nD τ).loc main_v98) = refRV (projAt m c)
      ∧ r.2.mem ((c.tc : Thread nD τ).loc main_v99) = refRG (projAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1, (h c).2.1, (h c).2.2.1, (h c).2.2.2.1, (h c).2.2.2.2.1, (h c).2.2.2.2.2⟩)
    (Value.run m ρ)

end Cert.LnRefIdeal.Term

end
-- ==== Proof.LnValue.lean ====
/- The input projection's kernel: its six result arrays are the reference's six terms over the same arguments. -/
module

public import proofs.«01_k».proof.Proof.LnTerm
public import proofs.«01_k».proof.Proof.Gen.LnIdeal.Frame
public import Idealize.ShloMosaic.Lib.Claim
public import Idealize.ShloMosaic.Lib.Pipeline.ValueKit

@[expose] public section

set_option maxRecDepth 16384

noncomputable section

namespace Cert.LnIdeal.Values

open Cert.LnIdeal Cert.LnIdeal.Gen Idealize.ShloMosaic Idealize.ShloMosaic.TcCoe Idealize.SL.Sem
open Idealize.ShloMosaic.Pipeline (Dat)
open Cert.LnRefIdeal.Term (rowMean centred normed proj angle spread rotary refQ refKV refRQ refRK refRV refRG)

variable (m : (ℓ : Loc nD τ sig) → Buf (Elt Ideal) ℓ)

/-- The block each window reads or writes at every grid point. -/
theorem idx : ∀ t : Fin cfg0.N, win0_0.index t = ![t.val, 0] ∧ win0_1.index t = ![0, 0] ∧ win0_2.index t = ![0, 0]
    ∧ win0_3.index t = ![0, 0] ∧ win0_4.index t = ![t.val % 8, 0] ∧ win0_5.index t = ![t.val % 8, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The reference's projection of the kernel's arguments. -/
def P (c : Dev nD) : FVec Ideal Cert.LnRefIdeal.S8x2048x2816 .f32 :=
  proj (m ((c.tc : Thread nD τ).loc main_arg0)) (m ((c.tc : Thread nD τ).loc main_arg1))
    (m ((c.tc : Thread nD τ).loc main_arg2)) (m ((c.tc : Thread nD τ).loc main_arg3))

/-- A grid point's product, at row `r` and column `e`, is the projection at the batch and position that row is. -/
theorem proj_blk (c : Dev nD) (t : Fin cfg0.N) (r : Fin 256) (e : Fin 2816) (a : Fin 8) (s : Fin 2048)
    (h : (a : ℕ) * 2048 + s = t.val * 256 + r) :
    k0_pay4 (F := Ideal) (iblk m c 0 t) (iblk m c 1 t) (iblk m c 2 t) (iblk m c 3 t) (ix2 r e) = P m c (ix3 a s e) := by
  unfold P
  pointwise [k0_pay4, proj, normed, centred, rowMean]
  blk_point [iblk, V, idx t]

end Cert.LnIdeal.Values

end
-- ==== Proof.LnF.lean ====
/- The input projection's kernel: its six result arrays, each the reference's term over the same arguments. -/
module

public import proofs.«01_k».proof.Proof.LnValue
public import proofs.«01_k».proof.Proof.Gen.LnIdeal.Frame
public import Idealize.ShloMosaic.Lib.Claim
public import Idealize.ShloMosaic.Lib.Pipeline.ValueKit

@[expose] public section

set_option maxRecDepth 16384

noncomputable section

namespace Cert.LnIdeal.Finals

open Cert.LnIdeal.Values Cert.LnIdeal Cert.LnIdeal.Gen Idealize.ShloMosaic Idealize.ShloMosaic.TcCoe Idealize.SL.Sem
open Idealize.ShloMosaic.Pipeline (Dat)
open Cert.LnRefIdeal.Term (rowMean centred normed proj angle spread rotary refQ refKV refRQ refRK refRV refRG)

variable (m : (ℓ : Loc nD τ sig) → Buf (Elt Ideal) ℓ)

/-- The two programs hold the same 2048 position patterns. -/
theorem lits (i : Fin 2048) : Cert.LnIdeal.lit0 i = Cert.LnRefIdeal.lit0 i :=
  (by decide +kernel : ∀ i : Fin 2048, Cert.LnIdeal.lit0 i = Cert.LnRefIdeal.lit0 i) i

/-- The cosine table the kernel is handed is the reference's, twice side by side. -/
theorem cosT (c : Dev nD) : V m c main_v13 = concatenate S2048x128 1 [⟨S2048x64, Host.cos (angle Cert.LnRefIdeal.lit0)⟩,
    ⟨S2048x64, Host.cos (angle Cert.LnRefIdeal.lit0)⟩] concatenates_S2048x64_S2048x64_S2048x128_d1 := by
  entry_read
  rw [← funext lits]
  rfl

/-- The sine table the kernel is handed is the reference's negated, then the reference's. -/
theorem sinT (c : Dev nD) : V m c main_v15 = concatenate S2048x128 1 [⟨S2048x64, Host.negf (Host.sin (angle Cert.LnRefIdeal.lit0))⟩,
    ⟨S2048x64, Host.sin (angle Cert.LnRefIdeal.lit0)⟩] concatenates_S2048x64_S2048x64_S2048x128_d1 := by
  entry_read
  rw [← funext lits]
  rfl

/-- The kernel's rotary: lane times cosine, plus the lane half a head away times sine. -/
theorem rot9 (p : FVec Ideal S256x2816 .f32) (C D : FVec Ideal S256x128 .f32) (r : Fin 256) (h : Fin 4) (d : Fin 128) :
    k0_pay9 p C D (ix2 r ⟨(h : ℕ) * 128 + d, by omega⟩)
      = p (ix2 r ⟨768 + ((h : ℕ) * 128 + d), by omega⟩) * C (ix2 r d)
        + p (ix2 r ⟨768 + ((h : ℕ) * 128 + (d + 64) % 128), by omega⟩) * D (ix2 r d) := by
  pointwise [k0_pay9]
  split_ifs <;> refine Ideal.add_congr (Ideal.mul_congr ?_ ?_) (Ideal.mul_congr ?_ ?_) <;> blk_ext []

/-- The same rotary on the retention keys' columns, which start 512 further on. -/
theorem rot10 (p : FVec Ideal S256x2816 .f32) (C D : FVec Ideal S256x128 .f32) (r : Fin 256) (h : Fin 4) (d : Fin 128) :
    k0_pay10 p C D (ix2 r ⟨(h : ℕ) * 128 + d, by omega⟩)
      = p (ix2 r ⟨1280 + ((h : ℕ) * 128 + d), by omega⟩) * C (ix2 r d)
        + p (ix2 r ⟨1280 + ((h : ℕ) * 128 + (d + 64) % 128), by omega⟩) * D (ix2 r d) := by
  pointwise [k0_pay10]
  split_ifs <;> refine Ideal.add_congr (Ideal.mul_congr ?_ ?_) (Ideal.mul_congr ?_ ?_) <;> blk_ext []

/-- The reference's rotary, in the kernel's form: the half-head partner's sine is negated on the first half. -/
theorem rotR (p : FVec Ideal Cert.LnRefIdeal.S8x2048x512 .f32) (C D : FVec Ideal Cert.LnRefIdeal.S2048x64 .f32) (a : Fin 8) (s : Fin 2048) (h : Fin 4) (d : Fin 128) (f : Fin 64) (hf : (d : ℕ) % 64 = f) :
    rotary C D p (ix4 a s h d) = p (ix3 a s ⟨h * 128 + d, by omega⟩) * C (ix2 s f) +
       p (ix3 a s ⟨(h : ℕ) * 128 + (d + 64) % 128, by omega⟩) * (if (d : ℕ) < 64 then - D (ix2 s f) else D (ix2 s f)) := by
  pointwise [rotary, Cert.LnRefIdeal.Term.spread]
  by_cases h1 : (d : ℕ) < 64 <;> simp only [h1, ↓reduceDIte, ↓reduceIte]
  · rw [sub_eq_add_neg, ← mul_neg]
    refine Ideal.add_congr (Ideal.mul_congr ?_ ?_) (Ideal.mul_congr ?_ (congrArg Neg.neg ?_)) <;> blk_ext []
  · rw [add_comm]
    refine Ideal.add_congr (Ideal.mul_congr ?_ ?_) (Ideal.mul_congr ?_ ?_) <;> blk_ext []

/-- What a grid point stores for the queries, at block index `y`, is the reference's value at the array index `j` of `y`. -/
theorem ptQ (c : Dev nD) (t : Fin cfg0.N) (y : S256x512.Idx) (j : S16384x512.Idx)
    (h0 : (j 0 : ℕ) = t.val * 256 + y 0) (h1 : (j 1 : ℕ) = y 1) :
    k0_pay7 (F := Ideal) (iblk m c 0 t) (iblk m c 1 t) (iblk m c 2 t) (iblk m c 3 t) y = refQ (P m c) j := by
  idx_vars y
  idx_vars j
  idx_bounds
  pointwise [k0_pay7, refQ]
  refine (proj_blk m c t y0 _ ⟨(j0 : ℕ) / 2048, by omega⟩ ⟨(j0 : ℕ) % 2048, by omega⟩ (by simp only []; omega)).trans ?_
  blk_ext []

/-- The query array: the first 512 columns of the projection. -/
theorem finalQ (c : Dev nD) : (dats m 0 c).arrAt 6 (cfgs 0).N = refQ (P m c) := by
  refine (dats m 0 c).arrAt_eq_of_covers 6 _ (by decide +kernel) fun t _ y => ?_
  blk_simp
  rw [after0_6]
  frame_out
  exact ptQ m c t y _ (by blk_simp [idx t]) (by blk_simp [idx t] <;> omega)

/-- A column of four heads is a head and a lane. -/
theorem headLane (y : Fin 512) : ∃ (h : Fin 4) (d : Fin 128), y = ⟨(h : ℕ) * 128 + d, by omega⟩ :=
  ⟨⟨(y : ℕ) / 128, by omega⟩, ⟨(y : ℕ) % 128, by omega⟩, Fin.ext (by simp only []; omega)⟩

/-- The block of the cosine table, at row `r` and lane `d`, is the reference's cosine at that position and frequency. -/
theorem cosAt (c : Dev nD) (t : Fin cfg0.N) (r : Fin 256) (d : Fin 128) (s : Fin 2048) (f : Fin 64)
    (hs : (s : ℕ) = t.val % 8 * 256 + r) (hf : (d : ℕ) % 64 = f) :
    k0_pay5 (F := Ideal) (iblk m c 4 t) (ix2 r d) = Host.cos (angle Cert.LnRefIdeal.lit0) (ix2 s f) := by
  have hT : (V m c main_v13 : FVec Ideal S2048x128 .f32) (ix2 s d) = Host.cos (angle Cert.LnRefIdeal.lit0) (ix2 s f) := by
    rw [cosT]
    generalize Host.cos (angle Cert.LnRefIdeal.lit0) = T
    pointwise []
    split_ifs <;> blk_ext []
  refine Eq.trans ?_ hT
  pointwise [k0_pay5]
  blk_ext [iblk, idx t]

/-- The block of the sine table is the reference's sine, negated on the first half of the lanes. -/
theorem sinAt (c : Dev nD) (t : Fin cfg0.N) (r : Fin 256) (d : Fin 128) (s : Fin 2048) (f : Fin 64)
    (hs : (s : ℕ) = t.val % 8 * 256 + r) (hf : (d : ℕ) % 64 = f) :
    k0_pay6 (F := Ideal) (iblk m c 5 t) (ix2 r d)
      = if (d : ℕ) < 64 then - Host.sin (angle Cert.LnRefIdeal.lit0) (ix2 s f) else Host.sin (angle Cert.LnRefIdeal.lit0) (ix2 s f) := by
  have hT : ∀ T : FVec Ideal S2048x128 .f32, T = V m c main_v15 → T (ix2 s d)
      = if (d : ℕ) < 64 then - Host.sin (angle Cert.LnRefIdeal.lit0) (ix2 s f) else Host.sin (angle Cert.LnRefIdeal.lit0) (ix2 s f) := by
    rintro _ rfl
    rw [sinT]
    generalize Host.sin (angle Cert.LnRefIdeal.lit0) = T
    pointwise []
    by_cases h1 : (d : ℕ) < 64 <;> simp only [h1, ↓reduceDIte, ↓reduceIte]
    · refine congrArg Neg.neg ?_
      blk_ext []
    · blk_ext []
  refine Eq.trans ?_ (hT _ rfl)
  pointwise [k0_pay6]
  blk_ext [iblk, idx t]

/-- Reading a block of 512 columns of the projection. -/
theorem slice768 (p : FVec Ideal Cert.LnRefIdeal.S8x2048x2816 .f32) (a : Fin 8) (s : Fin 2048) (e : Fin 512) :
    extractStridedSlice Cert.LnRefIdeal.S8x2048x512 ![0, 0, 768] p Cert.LnRefIdeal.Gen.slices_S8x2048x2816_S8x2048x512_0_0_768 (ix3 a s e)
      = p (ix3 a s ⟨768 + (e : ℕ), by omega⟩) := by
  pointwise []
@[inherit_doc slice768] theorem slice1280 (p : FVec Ideal Cert.LnRefIdeal.S8x2048x2816 .f32) (a : Fin 8) (s : Fin 2048) (e : Fin 512) :
    extractStridedSlice Cert.LnRefIdeal.S8x2048x512 ![0, 0, 1280] p Cert.LnRefIdeal.Gen.slices_S8x2048x2816_S8x2048x512_0_0_1280 (ix3 a s e)
      = p (ix3 a s ⟨1280 + (e : ℕ), by omega⟩) := by
  pointwise []

/-- The rotated sum of a grid point's row, over the projection and the two table blocks, in the reference's terms. -/
theorem rotSum (c : Dev nD) (t : Fin cfg0.N) (r : Fin 256) (d : Fin 128) (e e' : Fin 2816) (a : Fin 8) (s : Fin 2048) (f : Fin 64)
    (ha : (a : ℕ) * 2048 + s = t.val * 256 + r) (hf : (d : ℕ) % 64 = f) :
    k0_pay4 (F := Ideal) (iblk m c 0 t) (iblk m c 1 t) (iblk m c 2 t) (iblk m c 3 t) (ix2 r e) * k0_pay5 (iblk m c 4 t) (ix2 r d)
      + k0_pay4 (F := Ideal) (iblk m c 0 t) (iblk m c 1 t) (iblk m c 2 t) (iblk m c 3 t) (ix2 r e') * k0_pay6 (iblk m c 5 t) (ix2 r d)
    = P m c (ix3 a s e) * Host.cos (angle Cert.LnRefIdeal.lit0) (ix2 s f)
      + P m c (ix3 a s e') * (if (d : ℕ) < 64 then - Host.sin (angle Cert.LnRefIdeal.lit0) (ix2 s f)
          else Host.sin (angle Cert.LnRefIdeal.lit0) (ix2 s f)) := by
  idx_bounds
  exact Ideal.add_congr
    (Ideal.mul_congr (proj_blk m c t r e a s ha) (cosAt m c t r d s f (by omega) hf))
    (Ideal.mul_congr (proj_blk m c t r e' a s ha) (sinAt m c t r d s f (by omega) hf))

/-- What a grid point stores for the retention queries is the reference's value. -/
theorem ptRQ (c : Dev nD) (t : Fin cfg0.N) (y : S256x512.Idx) (j : S16384x512.Idx)
    (h0 : (j 0 : ℕ) = t.val * 256 + y 0) (h1 : (j 1 : ℕ) = y 1) :
    k0_pay9 (F := Ideal) (k0_pay4 (iblk m c 0 t) (iblk m c 1 t) (iblk m c 2 t) (iblk m c 3 t)) (k0_pay5 (iblk m c 4 t))
      (k0_pay6 (iblk m c 5 t)) y = refRQ (Host.cos (angle Cert.LnRefIdeal.lit0)) (Host.sin (angle Cert.LnRefIdeal.lit0)) (P m c) j := by
  idx_vars y
  idx_vars j
  idx_bounds
  obtain ⟨h, d, rfl⟩ := headLane y1
  simp only [] at h1
  rw [rot9, rotSum m c t y0 d _ _ ⟨(j0 : ℕ) / 2048, by omega⟩ ⟨(j0 : ℕ) % 2048, by omega⟩ ⟨(d : ℕ) % 64, by omega⟩ (by simp only []; omega) rfl]
  pointwise [refRQ]
  rw [rotR (f := ⟨(d : ℕ) % 64, by omega⟩) (hf := by simp only []; omega), slice768, slice768]
  have hd : ((j1 : ℕ) % 128 < 64) = ((d : ℕ) < 64) := by rw [show (j1 : ℕ) % 128 = d by omega]
  simp only [hd]
  exact Ideal.add_congr (Ideal.mul_congr (by blk_ext []) rfl) (Ideal.mul_congr (by blk_ext []) rfl)

/-- What a grid point stores for the retention keys is the reference's value. -/
theorem ptRK (c : Dev nD) (t : Fin cfg0.N) (y : S256x512.Idx) (j : S16384x512.Idx)
    (h0 : (j 0 : ℕ) = t.val * 256 + y 0) (h1 : (j 1 : ℕ) = y 1) :
    k0_pay1 (F := Ideal) (k0_pay10 (k0_pay4 (iblk m c 0 t) (iblk m c 1 t) (iblk m c 2 t) (iblk m c 3 t)) (k0_pay5 (iblk m c 4 t))
      (k0_pay6 (iblk m c 5 t))) (Scalar.ofBits (F := Ideal) .f32 0x3DB504F3#32) y
      = refRK (Host.cos (angle Cert.LnRefIdeal.lit0)) (Host.sin (angle Cert.LnRefIdeal.lit0)) (P m c) j := by
  idx_vars y
  idx_vars j
  idx_bounds
  obtain ⟨h, d, rfl⟩ := headLane y1
  simp only [] at h1
  pointwise [k0_pay1, refRK]
  rw [rot10, rotSum m c t y0 d _ _ ⟨(j0 : ℕ) / 2048, by omega⟩ ⟨(j0 : ℕ) % 2048, by omega⟩ ⟨(d : ℕ) % 64, by omega⟩ (by simp only []; omega) rfl]
  rw [rotR (f := ⟨(d : ℕ) % 64, by omega⟩) (hf := by simp only []; omega), slice1280, slice1280]
  have hd : ((j1 : ℕ) % 128 < 64) = ((d : ℕ) < 64) := by rw [show (j1 : ℕ) % 128 = d by omega]
  simp only [hd]
  exact Ideal.mul_congr (Ideal.add_congr (Ideal.mul_congr (by blk_ext []) rfl) (Ideal.mul_congr (by blk_ext []) rfl)) rfl

/-- What a grid point stores for the keys and values is the reference's value. -/
theorem ptKV (c : Dev nD) (t : Fin cfg0.N) (y : S256x256.Idx) (j : S16384x256.Idx)
    (h0 : (j 0 : ℕ) = t.val * 256 + y 0) (h1 : (j 1 : ℕ) = y 1) :
    k0_pay8 (F := Ideal) (iblk m c 0 t) (iblk m c 1 t) (iblk m c 2 t) (iblk m c 3 t) y = refKV (P m c) j := by
  idx_vars y
  idx_vars j
  idx_bounds
  pointwise [k0_pay8, refKV]
  refine (proj_blk m c t y0 _ ⟨(j0 : ℕ) / 2048, by omega⟩ ⟨(j0 : ℕ) % 2048, by omega⟩ (by simp only []; omega)).trans ?_
  by_cases hl : (j1 : ℕ) < 128 <;> simp only [hl, ↓reduceDIte, ↓reduceIte] <;> blk_ext []

/-- What a grid point stores for the retention values is the reference's value. -/
theorem ptRV (c : Dev nD) (t : Fin cfg0.N) (y : S256x512.Idx) (j : S16384x512.Idx)
    (h0 : (j 0 : ℕ) = t.val * 256 + y 0) (h1 : (j 1 : ℕ) = y 1) :
    k0_pay2 (F := Ideal) (k0_pay4 (iblk m c 0 t) (iblk m c 1 t) (iblk m c 2 t) (iblk m c 3 t)) y = refRV (P m c) j := by
  idx_vars y
  idx_vars j
  idx_bounds
  pointwise [k0_pay2, refRV]
  refine (proj_blk m c t y0 _ ⟨(j0 : ℕ) / 2048, by omega⟩ ⟨(j0 : ℕ) % 2048, by omega⟩ (by simp only []; omega)).trans ?_
  blk_ext []

/-- What a grid point stores for the retention gates is the reference's value. -/
theorem ptRG (c : Dev nD) (t : Fin cfg0.N) (y : S256x512.Idx) (j : S16384x512.Idx)
    (h0 : (j 0 : ℕ) = t.val * 256 + y 0) (h1 : (j 1 : ℕ) = y 1) :
    k0_pay3 (F := Ideal) (k0_pay4 (iblk m c 0 t) (iblk m c 1 t) (iblk m c 2 t) (iblk m c 3 t)) y = refRG (P m c) j := by
  idx_vars y
  idx_vars j
  idx_bounds
  pointwise [k0_pay3, refRG]
  refine (proj_blk m c t y0 _ ⟨(j0 : ℕ) / 2048, by omega⟩ ⟨(j0 : ℕ) % 2048, by omega⟩ (by simp only []; omega)).trans ?_
  blk_ext []

/-- The array of keys and values at the end of the run. -/
theorem finalKV (c : Dev nD) : (dats m 0 c).arrAt 7 (cfgs 0).N = refKV (P m c) := by
  refine (dats m 0 c).arrAt_eq_of_covers 7 _ (by decide +kernel) fun t _ y => ?_
  blk_simp
  rw [after0_7]
  frame_out
  exact ptKV m c t y _ (by blk_simp [idx t]) (by blk_simp [idx t] <;> omega)

/-- The array of retention queries at the end of the run. -/
theorem finalRQ (c : Dev nD) : (dats m 0 c).arrAt 8 (cfgs 0).N
    = refRQ (Host.cos (angle Cert.LnRefIdeal.lit0)) (Host.sin (angle Cert.LnRefIdeal.lit0)) (P m c) := by
  refine (dats m 0 c).arrAt_eq_of_covers 8 _ (by decide +kernel) fun t _ y => ?_
  blk_simp
  rw [after0_8]
  frame_out
  unfold k0_pay11 k0_pay12 k0_pay13
  frame_out
  exact ptRQ m c t y _ (by blk_simp [idx t]) (by blk_simp [idx t] <;> omega)

/-- The array of retention keys at the end of the run. -/
theorem finalRK (c : Dev nD) : (dats m 0 c).arrAt 9 (cfgs 0).N
    = refRK (Host.cos (angle Cert.LnRefIdeal.lit0)) (Host.sin (angle Cert.LnRefIdeal.lit0)) (P m c) := by
  refine (dats m 0 c).arrAt_eq_of_covers 9 _ (by decide +kernel) fun t _ y => ?_
  blk_simp
  rw [after0_9]
  frame_out
  unfold k0_pay11 k0_pay12 k0_pay13
  frame_out
  exact ptRK m c t y _ (by blk_simp [idx t]) (by blk_simp [idx t] <;> omega)

/-- The array of retention values at the end of the run. -/
theorem finalRV (c : Dev nD) : (dats m 0 c).arrAt 10 (cfgs 0).N = refRV (P m c) := by
  refine (dats m 0 c).arrAt_eq_of_covers 10 _ (by decide +kernel) fun t _ y => ?_
  blk_simp
  rw [after0_10]
  frame_out
  unfold k0_pay11
  frame_out
  exact ptRV m c t y _ (by blk_simp [idx t]) (by blk_simp [idx t] <;> omega)

/-- The array of retention gates at the end of the run. -/
theorem finalRG (c : Dev nD) : (dats m 0 c).arrAt 11 (cfgs 0).N = refRG (P m c) := by
  refine (dats m 0 c).arrAt_eq_of_covers 11 _ (by decide +kernel) fun t _ y => ?_
  blk_simp
  rw [after0_11]
  frame_out
  unfold k0_pay11
  frame_out
  exact ptRG m c t y _ (by blk_simp [idx t]) (by blk_simp [idx t] <;> omega)

end Cert.LnIdeal.Finals

end
-- ==== Proof.LnAlg.lean ====
/- The input projection's value claim: its kernel and its reference end with equal results. -/
module

public import proofs.«01_k».proof.Defs
public import proofs.«01_k».proof.Proof.LnF

@[expose] public section

set_option maxRecDepth 16384

noncomputable section

namespace Cert.LnIdeal.Claims

open Idealize.ShloMosaic Idealize.ShloMosaic.TcCoe Idealize.SL.Sem Cert.LnIdeal.Finals
open Cert.LnIdeal.Values (P)
open Cert.LnRefIdeal.Term (angle refQ refKV refRQ refRK refRV refRG)

attribute [local instance] Cert.LnIdeal.Gen.facts Cert.LnRefIdeal.Gen.facts

set_option maxHeartbeats 4000000 in
/-- From equal arguments the projection's kernel and its reference end with the same six arrays. -/
theorem algebraic : Cert.algebraic_LnIdeal_LnRefIdeal (hLnIdeal := Cert.LnIdeal.Gen.facts) (hLnRefIdeal := Cert.LnRefIdeal.Gen.facts) := by
  intro m g m' g' _ hargs
  have hP : ∀ c : Dev Cert.LnIdeal.nD, Cert.LnRefIdeal.Term.projAt m' c = Cert.LnIdeal.Values.P m c := fun c => by
    unfold Cert.LnRefIdeal.Term.projAt Cert.LnIdeal.Values.P
    rw [(hargs c).1, (hargs c).2.1, (hargs c).2.2.1, (hargs c).2.2.2]
  have hl : Cert.LnRefIdeal.lit1 = Cert.LnRefIdeal.lit0 := by decide +kernel
  refine ⟨fun c => refQ (P m c), fun c => refKV (P m c),
    fun c => refRQ (Host.cos (angle Cert.LnRefIdeal.lit0)) (Host.sin (angle Cert.LnRefIdeal.lit0)) (P m c),
    fun c => refRK (Host.cos (angle Cert.LnRefIdeal.lit0)) (Host.sin (angle Cert.LnRefIdeal.lit0)) (P m c),
    fun c => refRV (P m c), fun c => refRG (P m c), ?_, ?_⟩
  · run_from Cert.LnIdeal.Gen.run_main m g
    · exact finalQ m c
    · exact finalKV m c
    · exact finalRQ m c
    · exact finalRK m c
    · exact finalRV m c
    · exact finalRG m c
  · refine (θ_run Cert.LnRefIdeal.defs _ _).mono (fun r h c => ?_) (Cert.LnRefIdeal.Term.results m' g')
    have := h c
    rw [hP c, hl] at this
    exact this

end Cert.LnIdeal.Claims

end
-- ==== Proof.RetPoint.lean ====
/- The retention kernel at one grid point: the state and the output block it leaves, in closed form. -/
module

public import proofs.«01_k».proof.Proof.Gen.RetIdeal.Frame
public import Idealize.ShloMosaic.Lib.Pointwise
public import Idealize.ShloMosaic.Lib.Claim
public import Idealize.ShloMosaic.Lib.Pipeline.ValueKit

@[expose] public section

set_option maxRecDepth 16384

noncomputable section

namespace Cert.RetIdeal.Point

open Cert.RetIdeal Cert.RetIdeal.Gen Idealize.ShloMosaic Idealize.ShloMosaic.TcCoe Idealize.SL.Sem
open Idealize.ShloMosaic.Pipeline (Dat)

/-- Column `d` of head `h`. -/
abbrev col (h : Fin 4) (d : Fin 128) : Fin 512 := ⟨(h : ℕ) * 128 + d, by omega⟩

/-- The state after one chunk, from the state before it: it fades by the chunk's decay and gains the keys' products with the values. -/
def upd (g : FVec Ideal S4 .f32) (st : FVec Ideal S8x4x128x128 .f32) (k v : FVec Ideal S8x64x512 .f32) (kd : FVec Ideal S4x64x128 .f32) :
    FVec Ideal S8x4x128x128 .f32 := fun i =>
  g (ix1 (i 1)) * st i + ∑ l : Fin 64, (k (ix3 (i 0) l (col (i 1) (i 2))) * kd (ix3 (i 1) l (i 2))) * v (ix3 (i 0) l (col (i 1) (i 3)))

/-- One chunk's outputs at batch `a`, position `q`, head `h` and lane `e`: what the chunk's own keys give, and what the state gives. -/
def outAt (st : FVec Ideal S8x4x128x128 .f32) (q k v : FVec Ideal S8x64x512 .f32) (dec : FVec Ideal S4x64x64 .f32) (qd : FVec Ideal S4x64x128 .f32)
    (a : Fin 8) (r : Fin 64) (h : Fin 4) (e : Fin 128) : EReal :=
  (∑ l : Fin 64, ((∑ d : Fin 128, q (ix3 a r (col h d)) * k (ix3 a l (col h d))) * dec (ix3 h r l)) * v (ix3 a l (col h e)))
    + (∑ d : Fin 128, q (ix3 a r (col h d)) * st (ix4 a h d e)) * qd (ix3 h r e)

/-- A head's new state as the kernel computes it from the loaded tiles. -/
def stTerm (g : Ideal .f32) (ST : FVec Ideal S1x1x128x128 .f32) (K KD V : FVec Ideal S1x64x128 .f32) : FVec Ideal S1x1x128x128 .f32 :=
  shapeCast S1x1x128x128
      (addf
        (mulf (broadcast S128x128 g) (shapeCast S128x128 ST shapeCasts_S1x1x128x128_S128x128))
        (matmul dot_S64x128_S64x128_S128x128_0_0_1_1_n_n none
          (truncf FTy.bf16
            (mulf (shapeCast S64x128 K shapeCasts_S1x64x128_S64x128) (shapeCast S64x128 KD shapeCasts_S1x64x128_S64x128))
            bitsLt_bf16_f32)
          (truncf FTy.bf16 (shapeCast S64x128 V shapeCasts_S1x64x128_S64x128) bitsLt_bf16_f32)
          (constant S128x128 FTy.f32 0#32)))
      shapeCasts_S128x128_S1x1x128x128

/-- A head's outputs as the kernel computes them from the loaded tiles. -/
def headTerm (ST : FVec Ideal S1x1x128x128 .f32) (Q K V : FVec Ideal S1x64x128 .f32) (DEC : FVec Ideal S1x64x64 .f32) (QD : FVec Ideal S1x64x128 .f32) :
    FVec Ideal S64x128 .f32 :=
  addf
    (matmul dot_S64x64_S64x128_S64x128_1_0_0_1_n_n none
      (truncf FTy.bf16
        (mulf
          (matmul dot_S64x128_S64x128_S64x64_1_1_0_0_n_n none
            (truncf FTy.bf16 (shapeCast S64x128 Q shapeCasts_S1x64x128_S64x128) bitsLt_bf16_f32)
            (truncf FTy.bf16 (shapeCast S64x128 K shapeCasts_S1x64x128_S64x128) bitsLt_bf16_f32)
            (constant S64x64 FTy.f32 0#32))
          (shapeCast S64x64 DEC shapeCasts_S1x64x64_S64x64))
        bitsLt_bf16_f32)
      (truncf FTy.bf16 (shapeCast S64x128 V shapeCasts_S1x64x128_S64x128) bitsLt_bf16_f32)
      (constant S64x128 FTy.f32 0#32))
    (mulf
      (matmul dot_S64x128_S128x128_S64x128_1_0_0_1_n_n none
        (truncf FTy.bf16 (shapeCast S64x128 Q shapeCasts_S1x64x128_S64x128) bitsLt_bf16_f32)
        (truncf FTy.bf16 (shapeCast S128x128 ST shapeCasts_S1x1x128x128_S128x128) bitsLt_bf16_f32)
        (constant S64x128 FTy.f32 0#32))
      (shapeCast S64x128 QD shapeCasts_S1x64x128_S64x128))

/-- The four heads' outputs side by side, as the kernel stores them. -/
def rowTerm (A B C D : FVec Ideal S64x128 .f32) : FVec Ideal S1x64x512 .f32 :=
  shapeCast S1x64x512 (concatenate S64x512 1 [⟨S64x128, A⟩, ⟨S64x128, B⟩, ⟨S64x128, C⟩, ⟨S64x128, D⟩]
    concatenates_S64x128_S64x128_S64x128_S64x128_S64x512_d1) shapeCasts_S64x512_S1x64x512

/-- A state tile read at one index. -/
theorem ldSt (X : FVec Ideal S8x4x128x128 .f32) (na nh : ℕ) (i : ∀ a, (![na, nh, 0, 0] : Fin 4 → ℕ) a + (![1, 1, 128, 128] : Fin 4 → ℕ) a ≤ S8x4x128x128.size a)
    (d e : Fin 128) (a : Fin 8) (h : Fin 4) (ha : (a : ℕ) = na) (hh : (h : ℕ) = nh) :
    View.ld (Val := Elt Ideal) (e' := .f32) X (Rect.unit ![na, nh, 0, 0] ![1, 1, 128, 128] i) (ix4 0 0 d e) = X (ix4 a h d e) := by
  subst ha hh
  pointwise []
  blk_ext []

/-- A head's columns of a chunk read at one index. -/
theorem ldCol (X : FVec Ideal S8x64x512 .f32) (na nc : ℕ) (i : ∀ a, (![na, 0, nc] : Fin 3 → ℕ) a + (![1, 64, 128] : Fin 3 → ℕ) a ≤ S8x64x512.size a)
    (l : Fin 64) (d : Fin 128) (a : Fin 8) (h : Fin 4) (ha : (a : ℕ) = na) (hc : (h : ℕ) * 128 = nc) :
    View.ld (Val := Elt Ideal) (e' := .f32) X (Rect.unit ![na, 0, nc] ![1, 64, 128] i) (ix3 0 l d) = X (ix3 a l (col h d)) := by
  subst ha hc
  pointwise []
  blk_ext []

/-- A head's tile of a table of 128 lanes read at one index. -/
theorem ldTab (X : FVec Ideal S4x64x128 .f32) (nh : ℕ) (i : ∀ a, (![nh, 0, 0] : Fin 3 → ℕ) a + (![1, 64, 128] : Fin 3 → ℕ) a ≤ S4x64x128.size a)
    (l : Fin 64) (d : Fin 128) (h : Fin 4) (hh : (h : ℕ) = nh) :
    View.ld (Val := Elt Ideal) (e' := .f32) X (Rect.unit ![nh, 0, 0] ![1, 64, 128] i) (ix3 0 l d) = X (ix3 h l d) := by
  subst hh
  pointwise []
  blk_ext []

/-- A head's tile of the decay table read at one index. -/
theorem ldDec (X : FVec Ideal S4x64x64 .f32) (nh : ℕ) (i : ∀ a, (![nh, 0, 0] : Fin 3 → ℕ) a + (![1, 64, 64] : Fin 3 → ℕ) a ≤ S4x64x64.size a)
    (l r : Fin 64) (h : Fin 4) (hh : (h : ℕ) = nh) :
    View.ld (Val := Elt Ideal) (e' := .f32) X (Rect.unit ![nh, 0, 0] ![1, 64, 64] i) (ix3 0 l r) = X (ix3 h l r) := by
  subst hh
  pointwise []
  blk_ext []

/-- A head's new state, entry by entry. -/
theorem stTerm_at (g : Ideal .f32) (ST : FVec Ideal S1x1x128x128 .f32) (K KD V : FVec Ideal S1x64x128 .f32) (x : S1x1x128x128.Idx) :
    stTerm g ST K KD V x = g * ST (ix4 0 0 (x 2) (x 3)) + ∑ l : Fin 64, (K (ix3 0 l (x 2)) * KD (ix3 0 l (x 2))) * V (ix3 0 l (x 3)) := by
  unfold stTerm
  pointwise []
  refine Ideal.add_congr (Ideal.mul_congr rfl (by blk_ext [])) (Finset.sum_congr rfl fun l _ => Ideal.mul_congr (Ideal.mul_congr ?_ ?_) ?_) <;> blk_ext []

/-- A head's outputs, entry by entry. -/
theorem headTerm_at (ST : FVec Ideal S1x1x128x128 .f32) (Q K V : FVec Ideal S1x64x128 .f32) (DEC : FVec Ideal S1x64x64 .f32) (QD : FVec Ideal S1x64x128 .f32)
    (r : Fin 64) (e : Fin 128) :
    headTerm ST Q K V DEC QD (ix2 r e) = (∑ l : Fin 64, ((∑ d : Fin 128, Q (ix3 0 r d) * K (ix3 0 l d)) * DEC (ix3 0 r l)) * V (ix3 0 l e))
      + (∑ d : Fin 128, Q (ix3 0 r d) * ST (ix4 0 0 d e)) * QD (ix3 0 r e) := by
  unfold headTerm
  pointwise []

/-- One state piece is the chunk's update of the state. -/
theorem stPiece (g : FVec Ideal S4 .f32) (st : FVec Ideal S8x4x128x128 .f32) (k v : FVec Ideal S8x64x512 .f32) (kd : FVec Ideal S4x64x128 .f32)
    (na nh nc : ℕ) (hc : nh * 128 = nc)
    (ist : ∀ a, (![na, nh, 0, 0] : Fin 4 → ℕ) a + (![1, 1, 128, 128] : Fin 4 → ℕ) a ≤ S8x4x128x128.size a)
    (icol : ∀ a, (![na, 0, nc] : Fin 3 → ℕ) a + (![1, 64, 128] : Fin 3 → ℕ) a ≤ S8x64x512.size a)
    (itab : ∀ a, (![nh, 0, 0] : Fin 3 → ℕ) a + (![1, 64, 128] : Fin 3 → ℕ) a ≤ S4x64x128.size a)
    (ig : ∀ a, (![nh] : Fin 1 → ℕ) a + (![1] : Fin 1 → ℕ) a ≤ S4.size a)
    (u : (Rect.unit (s := S4) ![nh] ![1] ig).shape.Idx)
    (x : S1x1x128x128.Idx) (y : S8x4x128x128.Idx) (h0 : (y 0 : ℕ) = na + x 0) (x0 : (x 0 : ℕ) < 1) (h1 : (y 1 : ℕ) = nh + x 1) (x1 : (x 1 : ℕ) < 1)
    (h2 : (y 2 : ℕ) = x 2) (h3 : (y 3 : ℕ) = x 3) :
    stTerm (View.ld (Val := Elt Ideal) (e' := .f32) g (Rect.unit ![nh] ![1] ig) u) (View.ld (Val := Elt Ideal) (e' := .f32) st (Rect.unit ![na, nh, 0, 0] ![1, 1, 128, 128] ist))
      (View.ld (Val := Elt Ideal) (e' := .f32) k (Rect.unit ![na, 0, nc] ![1, 64, 128] icol)) (View.ld (Val := Elt Ideal) (e' := .f32) kd (Rect.unit ![nh, 0, 0] ![1, 64, 128] itab))
      (View.ld (Val := Elt Ideal) (e' := .f32) v (Rect.unit ![na, 0, nc] ![1, 64, 128] icol)) x = upd g st k v kd y := by
  have hy0 : (y 0 : ℕ) = na := by omega
  have hy1 : (y 1 : ℕ) = nh := by omega
  have e2 : x 2 = y 2 := Fin.ext h2.symm
  have e3 : x 3 = y 3 := Fin.ext h3.symm
  rw [stTerm_at, e2, e3, ldSt st na nh ist (y 2) (y 3) (y 0) (y 1) hy0 hy1]
  unfold upd
  refine Ideal.add_congr (Ideal.mul_congr ?_ ?_) (Finset.sum_congr rfl fun l _ => ?_)
  · subst hy1
    have hu : (u 0 : ℕ) < 1 := (u 0).isLt
    pointwise []
    blk_ext []
  · blk_ext []
  · rw [ldCol k na nc icol l (y 2) (y 0) (y 1) hy0 (by rw [hy1, hc]), ldCol v na nc icol l (y 3) (y 0) (y 1) hy0 (by rw [hy1, hc]), ldTab kd nh itab l (y 2) (y 1) hy1]

/-- The chunk's whole output block. -/
def outFull (st : FVec Ideal S8x4x128x128 .f32) (q k v : FVec Ideal S8x64x512 .f32) (dec : FVec Ideal S4x64x64 .f32) (qd : FVec Ideal S4x64x128 .f32) :
    FVec Ideal S8x64x512 .f32 := fun y =>
  outAt st q k v dec qd (y 0) (y 1) ⟨(y 2 : ℕ) / 128, by have := (y 2).isLt; change (y 2 : ℕ) < 512 at this; omega⟩ ⟨(y 2 : ℕ) % 128, by omega⟩

/-- One head's outputs in a batch row are the chunk's outputs there. -/
theorem headPiece (st : FVec Ideal S8x4x128x128 .f32) (q k v : FVec Ideal S8x64x512 .f32) (dec : FVec Ideal S4x64x64 .f32) (qd : FVec Ideal S4x64x128 .f32)
    (na nh nc : ℕ) (a : Fin 8) (h : Fin 4) (ha : (a : ℕ) = na) (hh : (h : ℕ) = nh) (hc : nh * 128 = nc)
    (ist : ∀ a, (![na, nh, 0, 0] : Fin 4 → ℕ) a + (![1, 1, 128, 128] : Fin 4 → ℕ) a ≤ S8x4x128x128.size a)
    (icol : ∀ a, (![na, 0, nc] : Fin 3 → ℕ) a + (![1, 64, 128] : Fin 3 → ℕ) a ≤ S8x64x512.size a)
    (itab : ∀ a, (![nh, 0, 0] : Fin 3 → ℕ) a + (![1, 64, 128] : Fin 3 → ℕ) a ≤ S4x64x128.size a)
    (idec : ∀ a, (![nh, 0, 0] : Fin 3 → ℕ) a + (![1, 64, 64] : Fin 3 → ℕ) a ≤ S4x64x64.size a)
    (r : Fin 64) (e : Fin 128) :
    headTerm (View.ld (Val := Elt Ideal) (e' := .f32) st (Rect.unit ![na, nh, 0, 0] ![1, 1, 128, 128] ist))
      (View.ld (Val := Elt Ideal) (e' := .f32) q (Rect.unit ![na, 0, nc] ![1, 64, 128] icol)) (View.ld (Val := Elt Ideal) (e' := .f32) k (Rect.unit ![na, 0, nc] ![1, 64, 128] icol))
      (View.ld (Val := Elt Ideal) (e' := .f32) v (Rect.unit ![na, 0, nc] ![1, 64, 128] icol)) (View.ld (Val := Elt Ideal) (e' := .f32) dec (Rect.unit ![nh, 0, 0] ![1, 64, 64] idec))
      (View.ld (Val := Elt Ideal) (e' := .f32) qd (Rect.unit ![nh, 0, 0] ![1, 64, 128] itab)) (ix2 r e) = outAt st q k v dec qd a r h e := by
  have hc' : (h : ℕ) * 128 = nc := by rw [hh, hc]
  rw [headTerm_at]
  unfold outAt
  refine Ideal.add_congr (Finset.sum_congr rfl fun l _ => Ideal.mul_congr (Ideal.mul_congr (Finset.sum_congr rfl fun d _ => Ideal.mul_congr ?_ ?_) ?_) ?_)
    (Ideal.mul_congr (Finset.sum_congr rfl fun d _ => Ideal.mul_congr ?_ ?_) ?_)
  · exact ldCol q na nc icol r d a h ha hc'
  · exact ldCol k na nc icol l d a h ha hc'
  · exact ldDec dec nh idec r l h hh
  · exact ldCol v na nc icol l e a h ha hc'
  · exact ldCol q na nc icol r d a h ha hc'
  · exact ldSt st na nh ist d e a h ha hh
  · exact ldTab qd nh itab r e h hh

/-- The outputs at equal positions, heads and lanes are equal. -/
theorem outAt_congr {st : FVec Ideal S8x4x128x128 .f32} {q k v : FVec Ideal S8x64x512 .f32} {dec : FVec Ideal S4x64x64 .f32} {qd : FVec Ideal S4x64x128 .f32}
    {a : Fin 8} {r r' : Fin 64} {h h' : Fin 4} {e e' : Fin 128} (hr : (r : ℕ) = r') (hh : (h : ℕ) = h') (he : (e : ℕ) = e') :
    outAt st q k v dec qd a r h e = outAt st q k v dec qd a r' h' e' := by
  rw [Fin.ext hr, Fin.ext hh, Fin.ext he]

/-- A row of four heads is the chunk's output block at that batch row, when each head is. -/
theorem rowPiece (A B C D : FVec Ideal S64x128 .f32) (st : FVec Ideal S8x4x128x128 .f32) (q k v : FVec Ideal S8x64x512 .f32) (dec : FVec Ideal S4x64x64 .f32) (qd : FVec Ideal S4x64x128 .f32)
    (x : S1x64x512.Idx) (y : S8x64x512.Idx) (h1 : (y 1 : ℕ) = x 1) (h2 : (y 2 : ℕ) = x 2)
    (hA : ∀ r e, A (ix2 r e) = outAt st q k v dec qd (y 0) r 0 e) (hB : ∀ r e, B (ix2 r e) = outAt st q k v dec qd (y 0) r 1 e)
    (hC : ∀ r e, C (ix2 r e) = outAt st q k v dec qd (y 0) r 2 e) (hD : ∀ r e, D (ix2 r e) = outAt st q k v dec qd (y 0) r 3 e) :
    rowTerm A B C D x = outFull st q k v dec qd y := by
  unfold rowTerm outFull
  pointwise []
  have b := (x 2).isLt
  change (x 2 : ℕ) < 512 at b
  by_cases c0 : (x 2 : ℕ) < 128
  · simp only [c0, ↓reduceDIte]
    exact (hA _ _).trans (outAt_congr h1.symm (by simp; omega) (by simp; omega))
  by_cases c1 : (x 2 : ℕ) - 128 < 128
  · simp only [c0, c1, ↓reduceDIte]
    exact (hB _ _).trans (outAt_congr h1.symm (by simp; omega) (by simp; omega))
  by_cases c2 : (x 2 : ℕ) - 128 - 128 < 128
  · simp only [c0, c1, c2, ↓reduceDIte]
    exact (hC _ _).trans (outAt_congr h1.symm (by simp; omega) (by simp; omega))
  · simp only [c0, c1, c2, ↓reduceDIte]
    exact (hD _ _).trans (outAt_congr h1.symm (by simp; omega) (by simp; omega))

end Cert.RetIdeal.Point

end
-- ==== Proof.RetStep.lean ====
/- The retention kernel at one grid point: what the state and the output block hold after it. -/
module

public import proofs.«01_k».proof.Proof.Gen.RetIdeal.Frame
public import Idealize.ShloMosaic.Lib.Pointwise
public import proofs.«01_k».proof.Proof.RetPoint
public import Idealize.ShloMosaic.Lib.Pipeline.ReadBack
public import Idealize.ShloMosaic.Lib.Claim
public import Idealize.ShloMosaic.Lib.Pipeline.ValueKit

@[expose] public section

set_option maxRecDepth 16384

noncomputable section

namespace Cert.RetIdeal.Point

open Cert.RetIdeal Cert.RetIdeal.Gen Idealize.ShloMosaic Idealize.ShloMosaic.TcCoe Idealize.SL.Sem
open Idealize.ShloMosaic.Pipeline (Dat)

/-- The earliest store is not read where the later ones cover. -/
theorem canon_dropLast {Val : EltTy → Type} [∀ e, Nonempty (Val e)] {s : Shape} {e : EltTy} : ∀ (L : List (View.Piece Val s e)) (y : s.Idx),
    (∃ p ∈ L.dropLast, y ∈ p.1.set) → View.canon L y = View.canon L.dropLast y
  | [], _, h => by simp at h
  | [_], _, h => by simp at h
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨r, hr, hy⟩ := h
      rcases List.mem_cons.mp hr with rfl | hr
      · exact absurd hy hm
      · exact ⟨r, hr, hy⟩

variable (m : (ℓ : Loc nD τ sig) → Buf (Elt Ideal) ℓ)

set_option maxHeartbeats 8000000 in
/-- The state after a later chunk: the update of the state the chunk before left. -/
theorem stB (c : Dev nD) (t : Fin cfg0.N) (h0 : ¬ t.val % 32 = 0) (y : S8x4x128x128.Idx) :
    (outsAt0 m c t.val t.isLt).2 y = upd (iblk m c 0 t) (outsAt0 m c (t.val - 1) (Nat.lt_of_le_of_lt (Nat.sub_le _ _) t.isLt)).2
      (iblk m c 3 t) (iblk m c 4 t) (iblk m c 7 t) y := by
  rw [outsAt0_B m c t h0]
  frame_out
  canon_tiles x h
  all_goals
    open_payloads
    idx_bounds
    exact stPiece _ _ _ _ _ _ _ _ (by decide) _ _ _ _ _ x y (by omega) (by omega) (by omega) (by omega) (by omega) (by omega)

set_option maxHeartbeats 8000000 in
/-- The outputs of a later chunk, from the state the chunk before left. -/
theorem oB (c : Dev nD) (t : Fin cfg0.N) (h0 : ¬ t.val % 32 = 0) (y : S8x64x512.Idx) :
    (outsAt0 m c t.val t.isLt).1 y = outFull (outsAt0 m c (t.val - 1) (Nat.lt_of_le_of_lt (Nat.sub_le _ _) t.isLt)).2
      (iblk m c 2 t) (iblk m c 3 t) (iblk m c 4 t) (iblk m c 5 t) (iblk m c 6 t) y := by
  rw [outsAt0_B m c t h0]
  frame_out
  canon_tiles x h
  all_goals
    open_payloads
    idx_bounds
    refine rowPiece _ _ _ _ _ _ _ _ _ _ x y (by omega) (by omega) (fun r e => headPiece _ _ _ _ _ _ _ _ _ (y 0) 0 ?_ rfl (by decide) _ _ _ _ r e)
      (fun r e => headPiece _ _ _ _ _ _ _ _ _ (y 0) 1 ?_ rfl (by decide) _ _ _ _ r e) (fun r e => headPiece _ _ _ _ _ _ _ _ _ (y 0) 2 ?_ rfl (by decide) _ _ _ _ r e)
      (fun r e => headPiece _ _ _ _ _ _ _ _ _ (y 0) 3 ?_ rfl (by decide) _ _ _ _ r e) <;> omega

set_option maxHeartbeats 8000000 in
/-- The state after the first chunk: the update of the initial state. -/
theorem stA (c : Dev nD) (t : Fin cfg0.N) (h0 : t.val % 32 = 0) (y : S8x4x128x128.Idx) :
    (outsAt0 m c t.val t.isLt).2 y = upd (iblk m c 0 t) (iblk m c 1 t) (iblk m c 3 t) (iblk m c 4 t) (iblk m c 7 t) y := by
  rw [outsAt0_A m c t h0]
  frame_open
  simp (disch := decide) only [↓ View.readCov_skip, ↓ View.readCov_cons_toLoadRect, ↓ View.readCov_fill]
  frame_out
  refine (canon_dropLast _ y ?_).trans ?_
  · simp only [List.dropLast]
    set_option maxRecDepth 1000000 in exact View.cover_of_tiled_head _ _ _ (by rfl) _
  simp only [List.dropLast]
  canon_tiles x h
  all_goals
    open_payloads
    idx_bounds
    exact stPiece _ _ _ _ _ _ _ _ (by decide) _ _ _ _ _ x y (by omega) (by omega) (by omega) (by omega) (by omega) (by omega)

set_option maxHeartbeats 8000000 in
/-- The outputs of the first chunk, from the initial state. -/
theorem oA (c : Dev nD) (t : Fin cfg0.N) (h0 : t.val % 32 = 0) (y : S8x64x512.Idx) :
    (outsAt0 m c t.val t.isLt).1 y = outFull (iblk m c 1 t) (iblk m c 2 t) (iblk m c 3 t) (iblk m c 4 t) (iblk m c 5 t) (iblk m c 6 t) y := by
  rw [outsAt0_A m c t h0]
  frame_open
  simp (disch := decide) only [↓ View.readCov_skip, ↓ View.readCov_cons_toLoadRect, ↓ View.readCov_fill]
  frame_out
  canon_tiles x h
  all_goals
    open_payloads
    idx_bounds
    refine rowPiece _ _ _ _ _ _ _ _ _ _ x y (by omega) (by omega) (fun r e => headPiece _ _ _ _ _ _ _ _ _ (y 0) 0 ?_ rfl (by decide) _ _ _ _ r e)
      (fun r e => headPiece _ _ _ _ _ _ _ _ _ (y 0) 1 ?_ rfl (by decide) _ _ _ _ r e) (fun r e => headPiece _ _ _ _ _ _ _ _ _ (y 0) 2 ?_ rfl (by decide) _ _ _ _ r e)
      (fun r e => headPiece _ _ _ _ _ _ _ _ _ (y 0) 3 ?_ rfl (by decide) _ _ _ _ r e) <;> omega

end Cert.RetIdeal.Point

end
-- ==== Proof.RetRefLoop.lean ====
/- The retention reference's run, trip by trip. A valuation HOLDS a state when the carried buffers, the loop's constants
   and its counter read as that state's; every value of one trip is then the corresponding value over the state, one
   lemma each, so one trip takes `Holds` from a state to the next. The reference's results are therefore the fields of
   the state after 32 trips (`run_iter`). -/
module

public import proofs.«01_k».proof.Proof.Gen.RetRefIdeal.Run
public import proofs.«01_k».proof.Proof.Gen.RetRefIdeal.Step

@[expose] public section

noncomputable section

namespace Cert.RetRefIdeal.LoopRun

open Idealize.ShloMosaic Idealize.ShloMosaic.TcCoe Idealize.SL.Sem Idealize.ShloMosaic.StableHlo
open Cert.RetRefIdeal Cert.RetRefIdeal.Gen Cert.RetRefIdeal.Value
open Cert.RetRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v48_8) = s.main_v48_8
  f_9 : V0 (Proc.devRef .tc main_v48_9) = s.main_v48_9
  f_0 : V0 (Proc.devRef .tc main_v48_0) = s.main_v48_0
  f_1 : V0 (Proc.devRef .tc main_v48_1) = s.main_v48_1
  f_2 : V0 (Proc.devRef .tc main_v48_2) = s.main_v48_2
  n_7 : V0 (Proc.devRef .tc main_v48_7) = constantI S_ 32 (BitVec.ofNat 32 j)
  k_3 : V0 (Proc.devRef .tc main_v48_3) = Cert.RetRefIdeal.Step.K_main_v24 (F := F)
  k_4 : V0 (Proc.devRef .tc main_v48_4) = Cert.RetRefIdeal.Step.K_main_v32 (F := F)
  k_5 : V0 (Proc.devRef .tc main_v48_5) = Cert.RetRefIdeal.Step.K_main_v7 (F := F)
  k_6 : V0 (Proc.devRef .tc main_v48_6) = Cert.RetRefIdeal.Step.K_main_v40 (F := F)

variable {V0 s j}

set_option maxRecDepth 8192 in
theorem al_0 (h : Holds V0 s j) : (constantI S_ 32 0#32 : (Proc.devRef .tc main_while0b_call1_c : DevRef τ sig).ty.Contents (Elt F)) = Cert.RetRefIdeal.Step.b0 j s := by
  unfold Cert.RetRefIdeal.Step.b0
  rfl
set_option maxRecDepth 8192 in
theorem al_1 (h : Holds V0 s j) : (constantI S_ 32 0#32 : (Proc.devRef .tc main_while0b_call1_c_0 : DevRef τ sig).ty.Contents (Elt F)) = Cert.RetRefIdeal.Step.b1 j s := by
  unfold Cert.RetRefIdeal.Step.b1
  rfl
set_option maxRecDepth 8192 in
theorem al_2 (h : Holds V0 s j) : (constantI S_ 32 0#32 : (Proc.devRef .tc main_while0b_call1_c_1 : DevRef τ sig).ty.Contents (Elt F)) = Cert.RetRefIdeal.Step.b2 j s := by
  unfold Cert.RetRefIdeal.Step.b2
  rfl
set_option maxRecDepth 8192 in
theorem al_3 (h : Holds V0 s j) : (constantI S_ 32 0#32 : (Proc.devRef .tc main_while0b_call1_c_2 : DevRef τ sig).ty.Contents (Elt F)) = Cert.RetRefIdeal.Step.b3 j s := by
  unfold Cert.RetRefIdeal.Step.b3
  rfl
set_option maxRecDepth 8192 in
theorem al_4 (h : Holds V0 s j) : (Host.dynamicSlice S1x8x64x4x128 (V0 (Proc.devRef .tc main_v48_0)) (fun k => (((![V0 (Proc.devRef .tc main_v48_7), constantI S_ 32 0#32, constantI S_ 32 0#32, constantI S_ 32 0#32, constantI S_ 32 0#32] : Fin 5 → (⟨S_, .i32⟩ : BufTy).Contents (Elt F))) k (Shape.Idx.first h_S_)).toInt) sliceFits_S32x8x64x4x128_S1x8x64x4x128 : (Proc.devRef .tc main_while0b_call1_v0 : DevRef τ sig).ty.Contents (Elt F)) = Cert.RetRefIdeal.Step.b4 j s := by
  unfold Cert.RetRefIdeal.Step.b4
  rw [← al_0 h, ← al_1 h, ← al_2 h, ← al_3 h, h.f_0, h.n_7]
  try rfl
set_option maxRecDepth 8192 in
theorem al_5 (h : Holds V0 s j) : (res_main_while0b_v51 V0 : (Proc.devRef .tc main_while0b_v51 : DevRef τ sig).ty.Contents (Elt F)) = Cert.RetRefIdeal.Step.b5 j s := by
  unfold res_main_while0b_v51 Cert.RetRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.RetRefIdeal.Step.b6 j s := by
  unfold Cert.RetRefIdeal.Step.b6
  rfl
set_option maxRecDepth 8192 in
theorem al_7 (h : Holds V0 s j) : (constantI S_ 32 0#32 : (Proc.devRef .tc main_while0b_call2_c_0 : DevRef τ sig).ty.Contents (Elt F)) = Cert.RetRefIdeal.Step.b7 j s := by
  unfold Cert.RetRefIdeal.Step.b7
  rfl
set_option maxRecDepth 8192 in
theorem al_8 (h : Holds V0 s j) : (constantI S_ 32 0#32 : (Proc.devRef .tc main_while0b_call2_c_1 : DevRef τ sig).ty.Contents (Elt F)) = Cert.RetRefIdeal.Step.b8 j s := by
  unfold Cert.RetRefIdeal.Step.b8
  rfl
set_option maxRecDepth 8192 in
theorem al_9 (h : Holds V0 s j) : (constantI S_ 32 0#32 : (Proc.devRef .tc main_while0b_call2_c_2 : DevRef τ sig).ty.Contents (Elt F)) = Cert.RetRefIdeal.Step.b9 j s := by
  unfold Cert.RetRefIdeal.Step.b9
  rfl
set_option maxRecDepth 8192 in
theorem al_10 (h : Holds V0 s j) : (Host.dynamicSlice S1x8x64x4x128 (V0 (Proc.devRef .tc main_v48_1)) (fun k => (((![V0 (Proc.devRef .tc main_v48_7), constantI S_ 32 0#32, constantI S_ 32 0#32, constantI S_ 32 0#32, constantI S_ 32 0#32] : Fin 5 → (⟨S_, .i32⟩ : BufTy).Contents (Elt F))) k (Shape.Idx.first h_S_)).toInt) sliceFits_S32x8x64x4x128_S1x8x64x4x128 : (Proc.devRef .tc main_while0b_call2_v0 : DevRef τ sig).ty.Contents (Elt F)) = Cert.RetRefIdeal.Step.b10 j s := by
  unfold Cert.RetRefIdeal.Step.b10
  rw [← al_6 h, ← al_7 h, ← al_8 h, ← al_9 h, h.f_1, h.n_7]
  try rfl
set_option maxRecDepth 8192 in
theorem al_11 (h : Holds V0 s j) : (res_main_while0b_v52 V0 : (Proc.devRef .tc main_while0b_v52 : DevRef τ sig).ty.Contents (Elt F)) = Cert.RetRefIdeal.Step.b11 j s := by
  unfold res_main_while0b_v52 Cert.RetRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.RetRefIdeal.Step.b12 j s := by
  unfold Cert.RetRefIdeal.Step.b12
  rfl
set_option maxRecDepth 8192 in
theorem al_13 (h : Holds V0 s j) : (constantI S_ 32 0#32 : (Proc.devRef .tc main_while0b_call3_c_0 : DevRef τ sig).ty.Contents (Elt F)) = Cert.RetRefIdeal.Step.b13 j s := by
  unfold Cert.RetRefIdeal.Step.b13
  rfl
set_option maxRecDepth 8192 in
theorem al_14 (h : Holds V0 s j) : (constantI S_ 32 0#32 : (Proc.devRef .tc main_while0b_call3_c_1 : DevRef τ sig).ty.Contents (Elt F)) = Cert.RetRefIdeal.Step.b14 j s := by
  unfold Cert.RetRefIdeal.Step.b14
  rfl
set_option maxRecDepth 8192 in
theorem al_15 (h : Holds V0 s j) : (constantI S_ 32 0#32 : (Proc.devRef .tc main_while0b_call3_c_2 : DevRef τ sig).ty.Contents (Elt F)) = Cert.RetRefIdeal.Step.b15 j s := by
  unfold Cert.RetRefIdeal.Step.b15
  rfl
set_option maxRecDepth 8192 in
theorem al_16 (h : Holds V0 s j) : (Host.dynamicSlice S1x8x64x4x128 (V0 (Proc.devRef .tc main_v48_2)) (fun k => (((![V0 (Proc.devRef .tc main_v48_7), constantI S_ 32 0#32, constantI S_ 32 0#32, constantI S_ 32 0#32, constantI S_ 32 0#32] : Fin 5 → (⟨S_, .i32⟩ : BufTy).Contents (Elt F))) k (Shape.Idx.first h_S_)).toInt) sliceFits_S32x8x64x4x128_S1x8x64x4x128 : (Proc.devRef .tc main_while0b_call3_v0 : DevRef τ sig).ty.Contents (Elt F)) = Cert.RetRefIdeal.Step.b16 j s := by
  unfold Cert.RetRefIdeal.Step.b16
  rw [← al_12 h, ← al_13 h, ← al_14 h, ← al_15 h, h.f_2, h.n_7]
  try rfl
set_option maxRecDepth 8192 in
theorem al_17 (h : Holds V0 s j) : (res_main_while0b_v53 V0 : (Proc.devRef .tc main_while0b_v53 : DevRef τ sig).ty.Contents (Elt F)) = Cert.RetRefIdeal.Step.b17 j s := by
  unfold res_main_while0b_v53 Cert.RetRefIdeal.Step.b17
  rw [← al_16 h]
  try rfl
set_option maxRecDepth 8192 in
theorem al_18 (h : Holds V0 s j) : (Host.dotGeneral dot_S8x64x4x128_S8x64x4x128_S8x4x64x64_3_3_1_1_02_02 none (res_main_while0b_v51 V0) (res_main_while0b_v52 V0) : (Proc.devRef .tc main_while0b_v54 : DevRef τ sig).ty.Contents (Elt F)) = Cert.RetRefIdeal.Step.b18 j s := by
  unfold Cert.RetRefIdeal.Step.b18
  rw [← al_5 h, ← al_11 h]
  try rfl
set_option maxRecDepth 8192 in
theorem al_19 (h : Holds V0 s j) : (broadcastInDim S1x4x64x64 ![1, 2, 3] bcast_S4x64x64_S1x4x64x64_1_2_3 (V0 (Proc.devRef .tc main_v48_3)) : (Proc.devRef .tc main_while0b_v55 : DevRef τ sig).ty.Contents (Elt F)) = Cert.RetRefIdeal.Step.b19 j s := by
  unfold Cert.RetRefIdeal.Step.b19
  rw [h.k_3]
  try rfl
set_option maxRecDepth 8192 in
theorem al_20 (h : Holds V0 s j) : (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3))) : (Proc.devRef .tc main_while0b_v56 : DevRef τ sig).ty.Contents (Elt F)) = Cert.RetRefIdeal.Step.b20 j s := by
  unfold Cert.RetRefIdeal.Step.b20
  rw [← al_19 h]
  try rfl
set_option maxRecDepth 8192 in
theorem al_21 (h : Holds V0 s j) : (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))) : (Proc.devRef .tc main_while0b_v57 : DevRef τ sig).ty.Contents (Elt F)) = Cert.RetRefIdeal.Step.b21 j s := by
  unfold Cert.RetRefIdeal.Step.b21
  rw [← al_18 h, ← al_20 h]
  try rfl
set_option maxRecDepth 8192 in
theorem al_22 (h : Holds V0 s j) : (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3))))) : (Proc.devRef .tc main_while0b_v58 : DevRef τ sig).ty.Contents (Elt F)) = Cert.RetRefIdeal.Step.b22 j s := by
  unfold Cert.RetRefIdeal.Step.b22
  rw [← al_17 h, ← al_21 h]
  try rfl
set_option maxRecDepth 8192 in
theorem al_23 (h : Holds V0 s j) : (transpose S8x64x4x128 [0, 3, 1, 2] (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))))) transposes_S8x4x128x64_S8x64x4x128_0_3_1_2 : (Proc.devRef .tc main_while0b_v59 : DevRef τ sig).ty.Contents (Elt F)) = Cert.RetRefIdeal.Step.b23 j s := by
  unfold Cert.RetRefIdeal.Step.b23
  rw [← al_22 h]
  try rfl
set_option maxRecDepth 8192 in
theorem al_24 (h : Holds V0 s j) : (Host.dotGeneral dot_S8x4x128x128_S8x64x4x128_S8x4x128x64_2_3_3_1_01_02 none (V0 (Proc.devRef .tc main_v48_8)) (res_main_while0b_v51 V0) : (Proc.devRef .tc main_while0b_v60 : DevRef τ sig).ty.Contents (Elt F)) = Cert.RetRefIdeal.Step.b24 j s := by
  unfold Cert.RetRefIdeal.Step.b24
  rw [← al_5 h, h.f_8]
  try rfl
set_option maxRecDepth 8192 in
theorem al_25 (h : Holds V0 s j) : (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2 : (Proc.devRef .tc main_while0b_v61 : DevRef τ sig).ty.Contents (Elt F)) = Cert.RetRefIdeal.Step.b25 j s := by
  unfold Cert.RetRefIdeal.Step.b25
  rw [← al_24 h]
  try rfl
set_option maxRecDepth 8192 in
theorem al_26 (h : Holds V0 s j) : (broadcastInDim S1x64x4x1 ![1, 2] bcast_S64x4_S1x64x4x1_1_2 (V0 (Proc.devRef .tc main_v48_4)) : (Proc.devRef .tc main_while0b_v62 : DevRef τ sig).ty.Contents (Elt F)) = Cert.RetRefIdeal.Step.b26 j s := by
  unfold Cert.RetRefIdeal.Step.b26
  rw [h.k_4]
  try rfl
set_option maxRecDepth 8192 in
theorem al_27 (h : Holds V0 s j) : (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4))) : (Proc.devRef .tc main_while0b_v63 : DevRef τ sig).ty.Contents (Elt F)) = Cert.RetRefIdeal.Step.b27 j s := by
  unfold Cert.RetRefIdeal.Step.b27
  rw [← al_26 h]
  try rfl
set_option maxRecDepth 8192 in
theorem al_28 (h : Holds V0 s j) : (mulf (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4)))) : (Proc.devRef .tc main_while0b_v64 : DevRef τ sig).ty.Contents (Elt F)) = Cert.RetRefIdeal.Step.b28 j s := by
  unfold Cert.RetRefIdeal.Step.b28
  rw [← al_25 h, ← al_27 h]
  try rfl
set_option maxRecDepth 8192 in
theorem al_29 (h : Holds V0 s j) : (constant S_ .f32 0x42800000#32 : (Proc.devRef .tc main_while0b_cst_17 : DevRef τ sig).ty.Contents (Elt F)) = Cert.RetRefIdeal.Step.b29 j s := by
  unfold Cert.RetRefIdeal.Step.b29
  rfl
set_option maxRecDepth 8192 in
theorem al_30 (h : Holds V0 s j) : (broadcastInDim S4 ![] bcast_S_S4 (constant S_ .f32 0x42800000#32) : (Proc.devRef .tc main_while0b_v65 : DevRef τ sig).ty.Contents (Elt F)) = Cert.RetRefIdeal.Step.b30 j s := by
  unfold Cert.RetRefIdeal.Step.b30
  rw [← al_29 h]
  try rfl
set_option maxRecDepth 8192 in
theorem al_31 (h : Holds V0 s j) : (mulf (broadcastInDim S4 ![] bcast_S_S4 (constant S_ .f32 0x42800000#32)) (V0 (Proc.devRef .tc main_v48_5)) : (Proc.devRef .tc main_while0b_v66 : DevRef τ sig).ty.Contents (Elt F)) = Cert.RetRefIdeal.Step.b31 j s := by
  unfold Cert.RetRefIdeal.Step.b31
  rw [← al_30 h, h.k_5]
  try rfl
set_option maxRecDepth 8192 in
theorem al_32 (h : Holds V0 s j) : (Host.exp (mulf (broadcastInDim S4 ![] bcast_S_S4 (constant S_ .f32 0x42800000#32)) (V0 (Proc.devRef .tc main_v48_5))) : (Proc.devRef .tc main_while0b_v67 : DevRef τ sig).ty.Contents (Elt F)) = Cert.RetRefIdeal.Step.b32 j s := by
  unfold Cert.RetRefIdeal.Step.b32
  rw [← al_31 h]
  try rfl
set_option maxRecDepth 8192 in
theorem al_33 (h : Holds V0 s j) : (broadcastInDim S1x4x1x1 ![1] bcast_S4_S1x4x1x1_1 (Host.exp (mulf (broadcastInDim S4 ![] bcast_S_S4 (constant S_ .f32 0x42800000#32)) (V0 (Proc.devRef .tc main_v48_5)))) : (Proc.devRef .tc main_while0b_v68 : DevRef τ sig).ty.Contents (Elt F)) = Cert.RetRefIdeal.Step.b33 j s := by
  unfold Cert.RetRefIdeal.Step.b33
  rw [← al_32 h]
  try rfl
set_option maxRecDepth 8192 in
theorem al_34 (h : Holds V0 s j) : (broadcastInDim S8x4x128x128 ![0, 1, 2, 3] bcast_S1x4x1x1_S8x4x128x128_0_1_2_3 (broadcastInDim S1x4x1x1 ![1] bcast_S4_S1x4x1x1_1 (Host.exp (mulf (broadcastInDim S4 ![] bcast_S_S4 (constant S_ .f32 0x42800000#32)) (V0 (Proc.devRef .tc main_v48_5))))) : (Proc.devRef .tc main_while0b_v69 : DevRef τ sig).ty.Contents (Elt F)) = Cert.RetRefIdeal.Step.b34 j s := by
  unfold Cert.RetRefIdeal.Step.b34
  rw [← al_33 h]
  try rfl
set_option maxRecDepth 8192 in
theorem al_35 (h : Holds V0 s j) : (mulf (broadcastInDim S8x4x128x128 ![0, 1, 2, 3] bcast_S1x4x1x1_S8x4x128x128_0_1_2_3 (broadcastInDim S1x4x1x1 ![1] bcast_S4_S1x4x1x1_1 (Host.exp (mulf (broadcastInDim S4 ![] bcast_S_S4 (constant S_ .f32 0x42800000#32)) (V0 (Proc.devRef .tc main_v48_5)))))) (V0 (Proc.devRef .tc main_v48_8)) : (Proc.devRef .tc main_while0b_v70 : DevRef τ sig).ty.Contents (Elt F)) = Cert.RetRefIdeal.Step.b35 j s := by
  unfold Cert.RetRefIdeal.Step.b35
  rw [← al_34 h, h.f_8]
  try rfl
set_option maxRecDepth 8192 in
theorem al_36 (h : Holds V0 s j) : (broadcastInDim S1x64x4x1 ![1, 2] bcast_S64x4_S1x64x4x1_1_2 (V0 (Proc.devRef .tc main_v48_6)) : (Proc.devRef .tc main_while0b_v71 : DevRef τ sig).ty.Contents (Elt F)) = Cert.RetRefIdeal.Step.b36 j s := by
  unfold Cert.RetRefIdeal.Step.b36
  rw [h.k_6]
  try rfl
set_option maxRecDepth 8192 in
theorem al_37 (h : Holds V0 s j) : (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_6))) : (Proc.devRef .tc main_while0b_v72 : DevRef τ sig).ty.Contents (Elt F)) = Cert.RetRefIdeal.Step.b37 j s := by
  unfold Cert.RetRefIdeal.Step.b37
  rw [← al_36 h]
  try rfl
set_option maxRecDepth 8192 in
theorem al_38 (h : Holds V0 s j) : (mulf (res_main_while0b_v52 V0) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_6)))) : (Proc.devRef .tc main_while0b_v73 : DevRef τ sig).ty.Contents (Elt F)) = Cert.RetRefIdeal.Step.b38 j s := by
  unfold Cert.RetRefIdeal.Step.b38
  rw [← al_11 h, ← al_37 h]
  try rfl
set_option maxRecDepth 8192 in
theorem al_39 (h : Holds V0 s j) : (Host.dotGeneral dot_S8x64x4x128_S8x64x4x128_S8x4x128x128_1_1_3_3_02_02 none (mulf (res_main_while0b_v52 V0) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_6))))) (res_main_while0b_v53 V0) : (Proc.devRef .tc main_while0b_v74 : DevRef τ sig).ty.Contents (Elt F)) = Cert.RetRefIdeal.Step.b39 j s := by
  unfold Cert.RetRefIdeal.Step.b39
  rw [← al_38 h, ← al_17 h]
  try rfl
set_option maxRecDepth 8192 in
theorem al_40 (h : Holds V0 s j) : (addf (mulf (broadcastInDim S8x4x128x128 ![0, 1, 2, 3] bcast_S1x4x1x1_S8x4x128x128_0_1_2_3 (broadcastInDim S1x4x1x1 ![1] bcast_S4_S1x4x1x1_1 (Host.exp (mulf (broadcastInDim S4 ![] bcast_S_S4 (constant S_ .f32 0x42800000#32)) (V0 (Proc.devRef .tc main_v48_5)))))) (V0 (Proc.devRef .tc main_v48_8))) (Host.dotGeneral dot_S8x64x4x128_S8x64x4x128_S8x4x128x128_1_1_3_3_02_02 none (mulf (res_main_while0b_v52 V0) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_6))))) (res_main_while0b_v53 V0)) : (Proc.devRef .tc main_while0b_v75 : DevRef τ sig).ty.Contents (Elt F)) = Cert.RetRefIdeal.Step.b40 j s := by
  unfold Cert.RetRefIdeal.Step.b40
  rw [← al_35 h, ← al_39 h]
  try rfl
set_option maxRecDepth 8192 in
theorem al_41 (h : Holds V0 s j) : (addf (transpose S8x64x4x128 [0, 3, 1, 2] (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))))) transposes_S8x4x128x64_S8x64x4x128_0_3_1_2) (mulf (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4))))) : (Proc.devRef .tc main_while0b_v76 : DevRef τ sig).ty.Contents (Elt F)) = Cert.RetRefIdeal.Step.b41 j s := by
  unfold Cert.RetRefIdeal.Step.b41
  rw [← al_23 h, ← al_28 h]
  try rfl
set_option maxRecDepth 8192 in
theorem al_42 (h : Holds V0 s j) : (broadcastInDim S1x8x64x4x128 ![1, 2, 3, 4] bcast_S8x64x4x128_S1x8x64x4x128_1_2_3_4 (addf (transpose S8x64x4x128 [0, 3, 1, 2] (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))))) transposes_S8x4x128x64_S8x64x4x128_0_3_1_2) (mulf (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4)))))) : (Proc.devRef .tc main_while0b_call4_v0 : DevRef τ sig).ty.Contents (Elt F)) = Cert.RetRefIdeal.Step.b42 j s := by
  unfold Cert.RetRefIdeal.Step.b42
  rw [← al_41 h]
  try rfl
set_option maxRecDepth 8192 in
theorem al_43 (h : Holds V0 s j) : (constantI S_ 32 0#32 : (Proc.devRef .tc main_while0b_call4_c : DevRef τ sig).ty.Contents (Elt F)) = Cert.RetRefIdeal.Step.b43 j s := by
  unfold Cert.RetRefIdeal.Step.b43
  rfl
set_option maxRecDepth 8192 in
theorem al_44 (h : Holds V0 s j) : (constantI S_ 32 0#32 : (Proc.devRef .tc main_while0b_call4_c_0 : DevRef τ sig).ty.Contents (Elt F)) = Cert.RetRefIdeal.Step.b44 j s := by
  unfold Cert.RetRefIdeal.Step.b44
  rfl
set_option maxRecDepth 8192 in
theorem al_45 (h : Holds V0 s j) : (constantI S_ 32 0#32 : (Proc.devRef .tc main_while0b_call4_c_1 : DevRef τ sig).ty.Contents (Elt F)) = Cert.RetRefIdeal.Step.b45 j s := by
  unfold Cert.RetRefIdeal.Step.b45
  rfl
set_option maxRecDepth 8192 in
theorem al_46 (h : Holds V0 s j) : (constantI S_ 32 0#32 : (Proc.devRef .tc main_while0b_call4_c_2 : DevRef τ sig).ty.Contents (Elt F)) = Cert.RetRefIdeal.Step.b46 j s := by
  unfold Cert.RetRefIdeal.Step.b46
  rfl
set_option maxRecDepth 8192 in
theorem al_47 (h : Holds V0 s j) : (Host.dynamicUpdateSlice (V0 (Proc.devRef .tc main_v48_9)) (broadcastInDim S1x8x64x4x128 ![1, 2, 3, 4] bcast_S8x64x4x128_S1x8x64x4x128_1_2_3_4 (addf (transpose S8x64x4x128 [0, 3, 1, 2] (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))))) transposes_S8x4x128x64_S8x64x4x128_0_3_1_2) (mulf (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4))))))) (fun k => (((![V0 (Proc.devRef .tc main_v48_7), constantI S_ 32 0#32, constantI S_ 32 0#32, constantI S_ 32 0#32, constantI S_ 32 0#32] : Fin 5 → (⟨S_, .i32⟩ : BufTy).Contents (Elt F))) k (Shape.Idx.first h_S_)).toInt) updateFits_S32x8x64x4x128_S1x8x64x4x128 : (Proc.devRef .tc main_while0b_v77 : DevRef τ sig).ty.Contents (Elt F)) = Cert.RetRefIdeal.Step.b47 j s := by
  unfold Cert.RetRefIdeal.Step.b47
  rw [← al_42 h, ← al_43 h, ← al_44 h, ← al_45 h, ← al_46 h, h.f_9, h.n_7]
  try rfl

/-! One trip's step of the carried values is `step`, field by field; a counter steps to the next number. -/

theorem step_8 (h : Holds V0 s j) : step_main_v48_8 V0 = (step j s).main_v48_8 := by
  unfold step_main_v48_8 Cert.RetRefIdeal.Step.step
  show id (addf (mulf (broadcastInDim S8x4x128x128 ![0, 1, 2, 3] bcast_S1x4x1x1_S8x4x128x128_0_1_2_3 (broadcastInDim S1x4x1x1 ![1] bcast_S4_S1x4x1x1_1 (Host.exp (mulf (broadcastInDim S4 ![] bcast_S_S4 (constant S_ .f32 0x42800000#32)) (V0 (Proc.devRef .tc main_v48_5)))))) (V0 (Proc.devRef .tc main_v48_8))) (Host.dotGeneral dot_S8x64x4x128_S8x64x4x128_S8x4x128x128_1_1_3_3_02_02 none (mulf (res_main_while0b_v52 V0) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_6))))) (res_main_while0b_v53 V0))) = _
  rw [al_40 h]
  try rfl
theorem step_9 (h : Holds V0 s j) : step_main_v48_9 V0 = (step j s).main_v48_9 := by
  unfold step_main_v48_9 Cert.RetRefIdeal.Step.step
  show id (Host.dynamicUpdateSlice (V0 (Proc.devRef .tc main_v48_9)) (broadcastInDim S1x8x64x4x128 ![1, 2, 3, 4] bcast_S8x64x4x128_S1x8x64x4x128_1_2_3_4 (addf (transpose S8x64x4x128 [0, 3, 1, 2] (Host.dotGeneral dot_S8x64x4x128_S8x4x64x64_S8x4x128x64_1_3_3_2_02_01 none (res_main_while0b_v53 V0) (mulf (Host.dotGeneral dot_S8x64x4x128_S8x64x4x128_S8x4x64x64_3_3_1_1_02_02 none (res_main_while0b_v51 V0) (res_main_while0b_v52 V0)) (broadcastInDim S8x4x64x64 ![0, 1, 2, 3] bcast_S1x4x64x64_S8x4x64x64_0_1_2_3 (broadcastInDim S1x4x64x64 ![1, 2, 3] bcast_S4x64x64_S1x4x64x64_1_2_3 (V0 (Proc.devRef .tc main_v48_3)))))) transposes_S8x4x128x64_S8x64x4x128_0_3_1_2) (mulf (transpose S8x64x4x128 [0, 3, 1, 2] (Host.dotGeneral dot_S8x4x128x128_S8x64x4x128_S8x4x128x64_2_3_3_1_01_02 none (V0 (Proc.devRef .tc main_v48_8)) (res_main_while0b_v51 V0)) transposes_S8x4x128x64_S8x64x4x128_0_3_1_2) (broadcastInDim S8x64x4x128 ![0, 1, 2, 3] bcast_S1x64x4x1_S8x64x4x128_0_1_2_3 (broadcastInDim S1x64x4x1 ![1, 2] bcast_S64x4_S1x64x4x1_1_2 (V0 (Proc.devRef .tc main_v48_4))))))) (fun k => (((![V0 (Proc.devRef .tc main_v48_7), constantI S_ 32 0#32, constantI S_ 32 0#32, constantI S_ 32 0#32, constantI S_ 32 0#32] : Fin 5 → (⟨S_, .i32⟩ : BufTy).Contents (Elt F))) k (Shape.Idx.first h_S_)).toInt) updateFits_S32x8x64x4x128_S1x8x64x4x128) = _
  exact al_47 h
theorem step_7 (h : Holds V0 s j) : step_main_v48_7 V0 = constantI S_ 32 (BitVec.ofNat 32 (j + 1)) := by
  unfold step_main_v48_7
  rw [h.n_7]
  funext i
  show BitVec.ofNat 32 j + 1#32 = BitVec.ofNat 32 (j + 1)
  simp only [BitVec.ofNat_add]

set_option maxRecDepth 8192 in
theorem out_main_v50_holds (h : Holds V0 s j) : out_main_v50 V0 = Cert.RetRefIdeal.Step.R_main_v50 s := by
  unfold out_main_v50 Cert.RetRefIdeal.Step.R_main_v50
  rw [h.f_9]
  try rfl

/-- One trip keeps the valuation holding: `step` of the state, the same set-up values, the next number. -/
theorem holds_step (h : Holds V0 s j) : Holds (STEP V0) (step j s) (j + 1) where
  f_8 := (STEP_main_v48_8 V0).trans (step_8 h)
  f_9 := (STEP_main_v48_9 V0).trans (step_9 h)
  n_7 := (STEP_main_v48_7 V0).trans (step_7 h)
  k_3 := (STEP_main_v48_3 V0).trans h.k_3
  k_4 := (STEP_main_v48_4 V0).trans h.k_4
  k_5 := (STEP_main_v48_5 V0).trans h.k_5
  k_6 := (STEP_main_v48_6 V0).trans h.k_6
  f_0 := (STEP_main_v48_0 V0).trans h.f_0
  f_1 := (STEP_main_v48_1 V0).trans h.f_1
  f_2 := (STEP_main_v48_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RetRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v50) = Cert.RetRefIdeal.Step.R_main_v50 (it c 32)
      ∧ r.2.mem ((c.tc : Thread nD τ).loc main_v48_8) = (it c 32).main_v48_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v50_holds hk), (h c).2.1.trans hk.f_8, (h c).2.2.1, (h c).2.2.2.1, (h c).2.2.2.2.1, (h c).2.2.2.2.2⟩) (Value.run m ρ)

end Cert.RetRefIdeal.LoopRun

end
-- ==== Proof.RetRef.lean ====
/- The retention reference, chunk by chunk, in closed form: the state it carries and the outputs it stacks. -/
module

public import proofs.«01_k».proof.Proof.RetPoint
public import proofs.«01_k».proof.Proof.RetRefLoop

@[expose] public section

set_option maxRecDepth 16384

noncomputable section

namespace Cert.RetRefIdeal.Closed

open Cert.RetRefIdeal Cert.RetRefIdeal.Gen Cert.RetRefIdeal.Step Idealize.ShloMosaic Idealize.ShloMosaic.TcCoe Idealize.SL.Sem
open Cert.RetIdeal.Point (col upd outAt outFull)

/-- Chunk `n` of an array of 32 chunks of 64 positions. -/
def chunk (X : FVec Ideal S8x2048x512 .f32) (n : ℕ) : FVec Ideal Cert.RetIdeal.S8x64x512 .f32 := fun i =>
  X (ix3 (i 0) ⟨(n * 64 + (i 1 : ℕ)) % 2048, Nat.mod_lt _ (by decide)⟩ (i 2))

variable (st0 : FVec Ideal S8x4x128x128 .f32) (q k v : FVec Ideal S8x2048x512 .f32)

/-- The chunked queries at chunk `n` are the queries of chunk `n`. -/
theorem splitQ (X Y Z : FVec Ideal S8x2048x512 .f32) (n : Fin 32) (a : Fin 8) (l : Fin 64) (h : Fin 4) (d : Fin 128) :
    A_main_v42 (F := Ideal) X Y Z (ix5 n a l h d) = chunk X n (ix3 a l (col h d)) := by
  pointwise [A_main_v42, A_main_v41, chunk]
  blk_ext []

/-- The chunked keys at chunk `n` are the keys of chunk `n`. -/
theorem splitK (X Y Z : FVec Ideal S8x2048x512 .f32) (n : Fin 32) (a : Fin 8) (l : Fin 64) (h : Fin 4) (d : Fin 128) :
    A_main_v44 (F := Ideal) X Y Z (ix5 n a l h d) = chunk Y n (ix3 a l (col h d)) := by
  pointwise [A_main_v44, A_main_v43, chunk]
  blk_ext []

/-- The chunked values at chunk `n` are the values of chunk `n`. -/
theorem splitV (X Y Z : FVec Ideal S8x2048x512 .f32) (n : Fin 32) (a : Fin 8) (l : Fin 64) (h : Fin 4) (d : Fin 128) :
    A_main_v46 (F := Ideal) X Y Z (ix5 n a l h d) = chunk Z n (ix3 a l (col h d)) := by
  pointwise [A_main_v46, A_main_v45, chunk]
  blk_ext []

/-- Trip `n` reads and writes at chunk `n`. -/
theorem starts : ∀ n : Fin 32, ∀ k, Host.clampedStart S32x8x64x4x128 S1x8x64x4x128 rfl
    (fun k => BitVec.toInt ((![constantI S_ 32 (BitVec.ofNat 32 (n : ℕ)), constantI S_ 32 0#32, constantI S_ 32 0#32, constantI S_ 32 0#32,
      constantI S_ 32 0#32] : Fin 5 → (⟨S_, .i32⟩ : BufTy).Contents (Elt Ideal)) k (Shape.Idx.first h_S_))) k = (![n, 0, 0, 0, 0] : Fin 5 → ℕ) k := by
  decide +kernel

/-- Trip `n` takes the queries of chunk `n`. -/
theorem b5_at (s : State Ideal) (n : Fin 32) (a : Fin 8) (l : Fin 64) (h : Fin 4) (d : Fin 128) :
    b5 (F := Ideal) n s (ix4 a l h d) = s.main_v48_0 (ix5 n a l h d) := by
  have h0 := starts n 0
  have h1 := starts n 1
  have h2 := starts n 2
  have h3 := starts n 3
  have h4 := starts n 4
  pointwise [b5, b4, b0, b1, b2, b3]
  blk_ext [h0, h1, h2, h3, h4]

/-- Trip `n` takes the keys of chunk `n`. -/
theorem b11_at (s : State Ideal) (n : Fin 32) (a : Fin 8) (l : Fin 64) (h : Fin 4) (d : Fin 128) :
    b11 (F := Ideal) n s (ix4 a l h d) = s.main_v48_1 (ix5 n a l h d) := by
  have h0 := starts n 0
  have h1 := starts n 1
  have h2 := starts n 2
  have h3 := starts n 3
  have h4 := starts n 4
  pointwise [b11, b10, b6, b7, b8, b9]
  blk_ext [h0, h1, h2, h3, h4]

/-- Trip `n` takes the values of chunk `n`. -/
theorem b17_at (s : State Ideal) (n : Fin 32) (a : Fin 8) (l : Fin 64) (h : Fin 4) (d : Fin 128) :
    b17 (F := Ideal) n s (ix4 a l h d) = s.main_v48_2 (ix5 n a l h d) := by
  have h0 := starts n 0
  have h1 := starts n 1
  have h2 := starts n 2
  have h3 := starts n 3
  have h4 := starts n 4
  pointwise [b17, b16, b12, b13, b14, b15]
  blk_ext [h0, h1, h2, h3, h4]

/-- Trip `n` stacks its outputs at chunk `n` and leaves the others. -/
theorem b47_at (s : State Ideal) (n n' : Fin 32) (a : Fin 8) (l : Fin 64) (h : Fin 4) (d : Fin 128) :
    b47 (F := Ideal) n s (ix5 n' a l h d) = if (n' : ℕ) = n then b41 n s (ix4 a l h d) else s.main_v48_9 (ix5 n' a l h d) := by
  have h0 := starts n 0
  have h1 := starts n 1
  have h2 := starts n 2
  have h3 := starts n 3
  have h4 := starts n 4
  pointwise [b47, b43, b44, b45, b46, b42]
  split_ifs with c1 c2 c2
  · blk_ext [h0, h1, h2, h3, h4]
  · exfalso
    simp only [h0, h1, h2, h3, h4] at c1
    simp at c1
    omega
  · exfalso
    simp only [h0, h1, h2, h3, h4] at c1
    simp at c1
    omega
  · rfl

/-- The decay of the state over a chunk, per head. -/
def gR : FVec Ideal S4 .f32 := Host.exp (mulf (broadcastInDim S4 ![] bcast_S_S4 (constant S_ .f32 0x42800000#32)) (K_main_v7 (F := Ideal)))

/-- The decay of a query's reading of the state, per head and position. -/
def qdR : FVec Ideal Cert.RetIdeal.S4x64x128 .f32 := fun i => K_main_v32 (F := Ideal) (ix2 (i 1) (i 0))

/-- The decay of a key's contribution to the state, per head and position. -/
def kdR : FVec Ideal Cert.RetIdeal.S4x64x128 .f32 := fun i => K_main_v40 (F := Ideal) (ix2 (i 1) (i 0))

/-- A trip's new state. -/
theorem b40_at (s : State Ideal) (n : Fin 32) (k v : FVec Ideal Cert.RetIdeal.S8x64x512 .f32)
    (hk : ∀ a l h d, s.main_v48_1 (ix5 n a l h d) = k (ix3 a l (col h d))) (hv : ∀ a l h d, s.main_v48_2 (ix5 n a l h d) = v (ix3 a l (col h d))) :
    b40 (F := Ideal) n s = upd gR s.main_v48_8 k v kdR := by
  funext y
  idx_vars y
  pointwise [b40, b39, b38, b37, b36, b35, b34, b33, b32, b31, b30, b29, upd, gR, kdR, b11_at, b17_at, hk, hv]

/-- A trip's outputs. -/
theorem b41_at (s : State Ideal) (n : Fin 32) (q k v : FVec Ideal Cert.RetIdeal.S8x64x512 .f32)
    (hq : ∀ a l h d, s.main_v48_0 (ix5 n a l h d) = q (ix3 a l (col h d)))
    (hk : ∀ a l h d, s.main_v48_1 (ix5 n a l h d) = k (ix3 a l (col h d))) (hv : ∀ a l h d, s.main_v48_2 (ix5 n a l h d) = v (ix3 a l (col h d)))
    (a : Fin 8) (r : Fin 64) (h : Fin 4) (e : Fin 128) :
    b41 (F := Ideal) n s (ix4 a r h e) = outAt s.main_v48_8 q k v (K_main_v24 (F := Ideal)) qdR a r h e := by
  pointwise [b41, b28, b27, b26, b25, b24, b23, b22, b21, b20, b19, b18, outAt, qdR, b5_at, b11_at, b17_at, hk, hv, hq]
  refine Ideal.add_congr (Finset.sum_congr rfl fun l _ => mul_comm _ _) (Ideal.mul_congr (Finset.sum_congr rfl fun d _ => mul_comm _ _) rfl)

/-- The state before chunk `n`. -/
def seq (st0 : FVec Ideal S8x4x128x128 .f32) (k v : FVec Ideal S8x2048x512 .f32) : ℕ → FVec Ideal S8x4x128x128 .f32
  | 0 => st0
  | n + 1 => upd gR (seq st0 k v n) (chunk k n) (chunk v n) kdR

/-- The reference's loop state after `n` trips. -/
def trips (st0 : FVec Ideal S8x4x128x128 .f32) (q k v : FVec Ideal S8x2048x512 .f32) : ℕ → State Ideal
  | 0 => init st0 q k v
  | n + 1 => step n (trips st0 q k v n)

/-- The chunked inputs stay as they are. -/
theorem trips_inputs : ∀ n, (trips st0 q k v n).main_v48_0 = A_main_v42 q k v ∧ (trips st0 q k v n).main_v48_1 = A_main_v44 q k v
    ∧ (trips st0 q k v n).main_v48_2 = A_main_v46 q k v
  | 0 => ⟨rfl, rfl, rfl⟩
  | n + 1 => trips_inputs n

/-- The carried state after `n` trips is the state before chunk `n`. -/
theorem trips_state : ∀ n, n ≤ 32 → (trips st0 q k v n).main_v48_8 = seq st0 k v n
  | 0, _ => rfl
  | n + 1, h => by
    have i := trips_inputs st0 q k v n
    have e := b40_at (trips st0 q k v n) ⟨n, h⟩ (chunk k n) (chunk v n) (fun a l h' d => by rw [i.2.1]; exact splitK q k v ⟨n, h⟩ a l h' d)
      (fun a l h' d => by rw [i.2.2]; exact splitV q k v ⟨n, h⟩ a l h' d)
    refine (step_main_v48_8 n _).trans (e.trans ?_)
    rw [trips_state n (by omega)]
    rfl

/-- The outputs stacked after `n` trips, at every chunk before `n`. -/
theorem trips_out : ∀ n, n ≤ 32 → ∀ (n' : Fin 32), (n' : ℕ) < n → ∀ (a : Fin 8) (r : Fin 64) (h : Fin 4) (e : Fin 128),
    (trips st0 q k v n).main_v48_9 (ix5 n' a r h e)
      = outAt (seq st0 k v n') (chunk q n') (chunk k n') (chunk v n') (K_main_v24 (F := Ideal)) qdR a r h e
  | 0, _, _, h, _, _, _, _ => absurd h (Nat.not_lt_zero _)
  | n + 1, hn, n', hn', a, r, h, e => by
    have i := trips_inputs st0 q k v n
    have s := congrFun (step_main_v48_9 n (trips st0 q k v n)) (ix5 n' a r h e)
    refine s.trans ((b47_at (trips st0 q k v n) ⟨n, hn⟩ n' a r h e).trans ?_)
    by_cases c : (n' : ℕ) = n
    · rw [if_pos c]
      have en : n' = ⟨n, hn⟩ := Fin.ext c
      refine (b41_at (trips st0 q k v n) ⟨n, hn⟩ (chunk q n) (chunk k n) (chunk v n) (fun a l h' d => by rw [i.1]; exact splitQ q k v ⟨n, hn⟩ a l h' d)
        (fun a l h' d => by rw [i.2.1]; exact splitK q k v ⟨n, hn⟩ a l h' d)
        (fun a l h' d => by rw [i.2.2]; exact splitV q k v ⟨n, hn⟩ a l h' d) a r h e).trans ?_
      rw [trips_state st0 q k v n (by omega), c]
    · rw [if_neg c]
      exact trips_out n (by omega) n' (by omega) a r h e

/-- The reference's output at every batch, position and column. -/
def out (st0 : FVec Ideal S8x4x128x128 .f32) (q k v : FVec Ideal S8x2048x512 .f32) : FVec Ideal S8x2048x512 .f32 := fun y =>
  outFull (seq st0 k v ((y 1 : ℕ) / 64)) (chunk q ((y 1 : ℕ) / 64)) (chunk k ((y 1 : ℕ) / 64)) (chunk v ((y 1 : ℕ) / 64)) (K_main_v24 (F := Ideal)) qdR
    (ix3 (y 0) ⟨(y 1 : ℕ) % 64, Nat.mod_lt _ (by decide)⟩ (y 2))

/-- The stacked outputs, laid out by position, are that. -/
theorem out_at : R_main_v50 (trips st0 q k v 32) = out st0 q k v := by
  funext y
  idx_vars y
  unfold out outFull
  pointwise [R_main_v50]
  exact trips_out st0 q k v 32 le_rfl ⟨(y1 : ℕ) / 64, by omega⟩ (by simp; omega) y0 ⟨(y1 : ℕ) % 64, by omega⟩ ⟨(y2 : ℕ) / 128, by omega⟩ ⟨(y2 : ℕ) % 128, by omega⟩

end Cert.RetRefIdeal.Closed

end
-- ==== Proof.RetF.lean ====
/- The retention kernel's two result arrays are the reference's. -/
module

public import proofs.«01_k».proof.Proof.RetStep
public import proofs.«01_k».proof.Proof.RetRef

@[expose] public section

set_option maxRecDepth 16384

noncomputable section

namespace Cert.RetIdeal.Values

open Cert.RetIdeal Cert.RetIdeal.Gen Cert.RetIdeal.Point Idealize.ShloMosaic Idealize.ShloMosaic.TcCoe Idealize.SL.Sem
open Idealize.ShloMosaic.Pipeline (Dat)
open Cert.RetRefIdeal.Closed (chunk gR qdR kdR seq out)
open Cert.RetRefIdeal.Step (K_main_v24 K_main_v32 K_main_v40 K_main_v7)

variable (m : (ℓ : Loc nD τ sig) → Buf (Elt Ideal) ℓ)

/-- The block each window reads or writes at every grid point. -/
theorem idx : ∀ t : Fin cfg0.N, win0_0.index t = ![0] ∧ win0_1.index t = ![0, 0, 0, 0] ∧ win0_2.index t = ![0, t.val, 0]
    ∧ win0_3.index t = ![0, t.val, 0] ∧ win0_4.index t = ![0, t.val, 0] ∧ win0_5.index t = ![0, 0, 0]
    ∧ win0_6.index t = ![0, 0, 0] ∧ win0_7.index t = ![0, 0, 0] ∧ win0_8.index t = ![0, t.val, 0]
    ∧ win0_9.index t = ![0, 0, 0, 0] :=
  (by decide +kernel : ∀ t : Fin grid0.N, _)

/-- The state's decay table the kernel is handed is the reference's. -/
theorem gT (c : Dev nD) : V m c main_v43 = gR := by
  entry_read
  rfl

/-- The position decay the kernel is handed is the reference's. -/
theorem decT (c : Dev nD) : V m c main_v24 = K_main_v24 (F := Ideal) := by
  entry_read
  rfl

/-- The queries' decay the kernel is handed is the reference's, repeated along the lanes. -/
theorem qdT (c : Dev nD) : V m c main_v45 = qdR := by
  entry_read
  funext y
  idx_vars y
  pointwise [qdR, K_main_v32, Cert.RetRefIdeal.Step.K_main_v31, Cert.RetRefIdeal.Step.K_main_v29, Cert.RetRefIdeal.Step.K_main_v30, Cert.RetRefIdeal.Step.K_main_v28,
    Cert.RetRefIdeal.Step.K_main_v27]
  rfl

/-- The keys' decay the kernel is handed is the reference's, repeated along the lanes. -/
theorem kdT (c : Dev nD) : V m c main_v47 = kdR := by
  entry_read
  funext y
  idx_vars y
  pointwise [kdR, K_main_v40, Cert.RetRefIdeal.Step.K_main_v39, Cert.RetRefIdeal.Step.K_main_v37, Cert.RetRefIdeal.Step.K_main_v38, Cert.RetRefIdeal.Step.K_main_v35,
    Cert.RetRefIdeal.Step.K_main_v36]
  rfl

/-- The argument arrays. -/
abbrev A0 (c : Dev nD) : FVec Ideal S8x4x128x128 .f32 := m ((c.tc : Thread nD τ).loc main_arg0)
abbrev A1 (c : Dev nD) : FVec Ideal S8x2048x512 .f32 := m ((c.tc : Thread nD τ).loc main_arg1)
abbrev A2 (c : Dev nD) : FVec Ideal S8x2048x512 .f32 := m ((c.tc : Thread nD τ).loc main_arg2)
abbrev A3 (c : Dev nD) : FVec Ideal S8x2048x512 .f32 := m ((c.tc : Thread nD τ).loc main_arg3)

/-- The kernel's state decay, at every point. -/
theorem blk0 (c : Dev nD) (t : Fin cfg0.N) : iblk m c 0 t = gR := by
  rw [← gT m c]
  funext y
  idx_vars y
  blk_simp [iblk, idx t]
  blk_ext [idx t]

/-- The kernel's initial state, at every point. -/
theorem blk1 (c : Dev nD) (t : Fin cfg0.N) : iblk m c 1 t = A0 m c := by
  funext y
  idx_vars y
  blk_simp [iblk, idx t, V]
  blk_ext [idx t]

/-- A point's queries are its chunk's. -/
theorem blk2 (c : Dev nD) (t : Fin cfg0.N) : iblk m c 2 t = chunk (A1 m c) t := by
  funext y
  idx_vars y
  blk_simp [iblk, idx t, V, chunk]
  blk_ext [idx t]

/-- A point's keys are its chunk's. -/
theorem blk3 (c : Dev nD) (t : Fin cfg0.N) : iblk m c 3 t = chunk (A2 m c) t := by
  funext y
  idx_vars y
  blk_simp [iblk, idx t, V, chunk]
  blk_ext [idx t]

/-- A point's values are its chunk's. -/
theorem blk4 (c : Dev nD) (t : Fin cfg0.N) : iblk m c 4 t = chunk (A3 m c) t := by
  funext y
  idx_vars y
  blk_simp [iblk, idx t, V, chunk]
  blk_ext [idx t]

/-- The kernel's position decay, at every point. -/
theorem blk5 (c : Dev nD) (t : Fin cfg0.N) : iblk m c 5 t = K_main_v24 (F := Ideal) := by
  rw [← decT m c]
  funext y
  idx_vars y
  blk_simp [iblk, idx t]
  blk_ext [idx t]

/-- The kernel's query decay, at every point. -/
theorem blk6 (c : Dev nD) (t : Fin cfg0.N) : iblk m c 6 t = qdR := by
  rw [← qdT m c]
  funext y
  idx_vars y
  blk_simp [iblk, idx t]
  blk_ext [idx t]

/-- The kernel's key decay, at every point. -/
theorem blk7 (c : Dev nD) (t : Fin cfg0.N) : iblk m c 7 t = kdR := by
  rw [← kdT m c]
  funext y
  idx_vars y
  blk_simp [iblk, idx t]
  blk_ext [idx t]

/-- After point `n` the state is the reference's after `n + 1` chunks. -/
theorem stateAt (c : Dev nD) : ∀ (n : ℕ) (h : n < cfg0.N), (outsAt0 m c n h).2 = seq (A0 m c) (A2 m c) (A3 m c) (n + 1)
  | 0, h => by
    funext y
    rw [stA m c ⟨0, h⟩ (by simp) y, blk0, blk1, blk3, blk4, blk7]
    rfl
  | n + 1, h => by
    have h' : n + 1 < 32 := lt_of_lt_of_eq h N_0
    funext y
    rw [stB m c ⟨n + 1, h⟩ (by show ¬ (n + 1) % 32 = 0; omega) y, blk0, blk3, blk4, blk7]
    have e := stateAt c n (Nat.lt_of_succ_lt h)
    show upd _ (outsAt0 m c n _).2 _ _ _ y = _
    rw [e]
    rfl

/-- A point's output block is its chunk's outputs from the state before the chunk. -/
theorem outBlk (c : Dev nD) (t : Fin cfg0.N) (y : S8x64x512.Idx) :
    (outsAt0 m c t.val t.isLt).1 y = outFull (seq (A0 m c) (A2 m c) (A3 m c) t) (chunk (A1 m c) t) (chunk (A2 m c) t) (chunk (A3 m c) t)
      (K_main_v24 (F := Ideal)) qdR y := by
  have h' : (t : ℕ) < 32 := lt_of_lt_of_eq t.isLt N_0
  by_cases h0 : t.val % 32 = 0
  · rw [oA m c t h0 y, blk1, blk2, blk3, blk4, blk5, blk6]
    have e : (t : ℕ) = 0 := by omega
    rw [e]
    rfl
  · rw [oB m c t h0 y, blk2, blk3, blk4, blk5, blk6, stateAt m c (t.val - 1) _]
    have e : (t : ℕ) - 1 + 1 = t := by omega
    rw [e]

/-- A point's output block, at the array index its block index stands for. -/
theorem outPt (c : Dev nD) (t : Fin cfg0.N) (y : S8x64x512.Idx) (j : S8x2048x512.Idx) (h0 : (j 0 : ℕ) = y 0) (h1 : (j 1 : ℕ) = t.val * 64 + y 1)
    (h2 : (j 2 : ℕ) = y 2) : (outsAt0 m c t.val t.isLt).1 y = out (A0 m c) (A1 m c) (A2 m c) (A3 m c) j := by
  have b : (y 1 : ℕ) < 64 := (y 1).isLt
  have d : (j 1 : ℕ) / 64 = t.val := by omega
  have ey : (ix3 (j 0) ⟨(j 1 : ℕ) % 64, Nat.mod_lt _ (by decide)⟩ (j 2) : S8x64x512.Idx) = y := by
    funext a
    apply Fin.ext
    fin_cases a
    · exact h0
    · show (j 1 : ℕ) % 64 = y 1
      omega
    · exact h2
  rw [outBlk]
  unfold out
  rw [d]
  exact congrArg _ ey.symm

/-- The kernel's output array is the reference's. -/
theorem finalOut (c : Dev nD) : (dats m 0 c).arrAt 8 (cfgs 0).N = out (A0 m c) (A1 m c) (A2 m c) (A3 m c) := by
  refine (dats m 0 c).arrAt_eq_of_covers 8 _ (by decide +kernel) fun t _ y => ?_
  blk_simp []
  rw [after0_8]
  exact outPt m c t y _ (by blk_simp [idx t]) (by blk_simp [idx t]) (by blk_simp [idx t])

/-- Equal coordinates, equal values. -/
theorem same (X : FVec Ideal S8x4x128x128 .f32) (y j : S8x4x128x128.Idx) (h0 : (j 0 : ℕ) = y 0) (h1 : (j 1 : ℕ) = y 1) (h2 : (j 2 : ℕ) = y 2)
    (h3 : (j 3 : ℕ) = y 3) : X y = X j := by
  refine congrArg X (funext fun a => Fin.ext ?_)
  fin_cases a
  · exact h0.symm
  · exact h1.symm
  · exact h2.symm
  · exact h3.symm

/-- The kernel's state array is the reference's last state. -/
theorem finalState (c : Dev nD) : (dats m 0 c).arrAt 9 (cfgs 0).N = seq (A0 m c) (A2 m c) (A3 m c) 32 := by
  refine (dats m 0 c).arrAt_eq_of_covers 9 _ (by decide +kernel) fun t hf y => ?_
  have h' : (t : ℕ) < 32 := lt_of_lt_of_eq t.isLt N_0
  have e : (t : ℕ) % 32 = 31 := (flush0_9 t).mp hf
  have e' : (t : ℕ) + 1 = 32 := by omega
  blk_simp []
  rw [after0_9, stateAt m c t.val t.isLt, e']
  exact same _ y _ (by blk_simp [idx t]) (by blk_simp [idx t]) (by blk_simp [idx t]) (by blk_simp [idx t])

end Cert.RetIdeal.Values

end
-- ==== Proof.RetAlg.lean ====
/- The retention's value claim: its kernel and its reference end with equal results. -/
module

public import proofs.«01_k».proof.Defs
public import proofs.«01_k».proof.Proof.RetF

@[expose] public section

set_option maxRecDepth 16384

noncomputable section

namespace Cert.RetIdeal.Claims

open Idealize.ShloMosaic Idealize.ShloMosaic.TcCoe Idealize.SL.Sem Cert.RetIdeal.Values
open Cert.RetRefIdeal.Closed (seq out trips trips_state out_at)

attribute [local instance] Cert.RetIdeal.Gen.facts Cert.RetRefIdeal.Gen.facts

set_option maxHeartbeats 4000000 in
/-- From equal arguments the retention's kernel and its reference end with the same outputs and the same state. -/
theorem algebraic : Cert.algebraic_RetIdeal_RetRefIdeal (hRetIdeal := Cert.RetIdeal.Gen.facts) (hRetRefIdeal := Cert.RetRefIdeal.Gen.facts) := by
  intro m g m' g' _ hargs
  refine ⟨fun c => out (A0 m c) (A1 m c) (A2 m c) (A3 m c), fun c => seq (A0 m c) (A2 m c) (A3 m c) 32, ?_, ?_⟩
  · run_from Cert.RetIdeal.Gen.run_main m g
    · exact finalOut m c
    · exact finalState m c
  · refine (θ_run Cert.RetRefIdeal.defs _ _).mono (fun r h c => ?_) (Cert.RetRefIdeal.LoopRun.run_iter m' g'
      (fun c => trips (A0 m c) (A1 m c) (A2 m c) (A3 m c)) (fun c => ?_) (fun c n => rfl))
    · have := h c
      rw [out_at, trips_state _ _ _ _ 32 le_rfl] at this
      exact this
    · unfold Cert.RetRefIdeal.LoopRun.initState
      rw [(hargs c).1, (hargs c).2.1, (hargs c).2.2.1, (hargs c).2.2.2]
      rfl

end Cert.RetIdeal.Claims

end
-- ==== Proof.MixTerm.lean ====
/- The mixing's reference, read as terms over its argument arrays: the layer norm of the input, the per-head norm and
   gate of the retention's outputs, the output projection and the layer norm after it. `results` says the reference's
   run ends at them. -/
module

public import proofs.«01_k».proof.Proof.Gen.MixRefIdeal
public import proofs.«01_k».proof.Proof.Gen.MixRefIdeal.Run
public import Idealize.ShloMosaic.Lib.Pointwise

@[expose] public section

set_option maxRecDepth 16384

noncomputable section

namespace Cert.MixRefIdeal.Term

open Cert.MixRefIdeal Cert.MixRefIdeal.Gen Idealize.ShloMosaic Idealize.ShloMosaic.TcCoe Idealize.SL.Sem

/-- The mean of every row, kept as a column. -/
def rowMean (X : FVec Ideal S16384x1024 .f32) : FVec Ideal S16384x1 .f32 :=
  Host.divf (broadcastInDim S16384x1 ![0] bcast_S16384_S16384x1_0
      (Host.reduceAdd X (constant S_ .f32 0x00000000#32) reducesTo_S16384x1024_S16384_d1 h_S_))
    (broadcastInDim S16384x1 ![] bcast_S_S16384x1 (constant S_ .f32 0x44800000#32))

/-- Every row less its mean. -/
def centred (X : FVec Ideal S16384x1024 .f32) : FVec Ideal S16384x1024 .f32 :=
  subf X (broadcastInDim S16384x1024 ![0, 1] bcast_S16384x1_S16384x1024_0_1 (rowMean X))

/-- The layer norm of `X` with gain `g` and shift `b`. -/
def normed (X : FVec Ideal S16384x1024 .f32) (g b : FVec Ideal S1024 .f32) : FVec Ideal S16384x1024 .f32 :=
  addf (mulf (mulf (centred X) (broadcastInDim S16384x1024 ![0, 1] bcast_S16384x1_S16384x1024_0_1
      (Host.rsqrt (addf (rowMean (mulf (centred X) (centred X)))
        (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-- The mean of every head's lanes, kept as a lane. -/
def headMean (Y : FVec Ideal S16384x4x128 .f32) : FVec Ideal S16384x4x1 .f32 :=
  Host.divf (broadcastInDim S16384x4x1 ![0, 1] bcast_S16384x4_S16384x4x1_0_1
      (Host.reduceAdd Y (constant S_ .f32 0x00000000#32) reducesTo_S16384x4x128_S16384x4_d2 h_S_))
    (broadcastInDim S16384x4x1 ![] bcast_S_S16384x4x1 (constant S_ .f32 0x43000000#32))

/-- Every head's lanes less their mean. -/
def headCentred (Y : FVec Ideal S16384x4x128 .f32) : FVec Ideal S16384x4x128 .f32 :=
  subf Y (broadcastInDim S16384x4x128 ![0, 1, 2] bcast_S16384x4x1_S16384x4x128_0_1_2 (headMean Y))

/-- Every head's lanes normed. -/
def headNormed (Y : FVec Ideal S16384x4x128 .f32) : FVec Ideal S16384x4x128 .f32 :=
  mulf (headCentred Y) (broadcastInDim S16384x4x128 ![0, 1, 2] bcast_S16384x4x1_S16384x4x128_0_1_2
    (Host.rsqrt (addf (headMean (mulf (headCentred Y) (headCentred Y)))
      (broadcastInDim S16384x4x1 ![] bcast_S_S16384x4x1 (constant S_ .f32 0x3727C5AC#32)))))

/-- A gate times its logistic. -/
def silu (G : FVec Ideal S16384x512 .f32) : FVec Ideal S16384x512 .f32 :=
  mulf G (Host.divf (broadcastInDim S16384x512 ![] bcast_S_S16384x512 (constant S_ .f32 0x3F800000#32))
    (addf (broadcastInDim S16384x512 ![] bcast_S_S16384x512 (constant S_ .f32 0x3F800000#32)) (Host.exp (Host.negf G))))

/-- The retention's outputs `O`, normed per head, scaled by `s` and gated by `G`. -/
def gated (O G : FVec Ideal S16384x512 .f32) (s : FVec Ideal S1x512 .f32) : FVec Ideal S16384x512 .f32 :=
  mulf (mulf (shapeCast _ (headNormed (shapeCast _ O shapeCasts_S16384x512_S16384x4x128)) shapeCasts_S16384x4x128_S16384x512)
    (broadcastInDim S16384x512 ![0, 1] bcast_S1x512_S16384x512_0_1 (broadcastInDim S1x512 ![1] bcast_S512_S1x512_1
      (shapeCast _ s shapeCasts_S1x512_S512)))) (silu G)

/-- The attention's outputs beside the gated retention's. -/
def beside (A O G : FVec Ideal S16384x512 .f32) (s : FVec Ideal S1x512 .f32) : FVec Ideal S16384x1024 .f32 :=
  concatenate S16384x1024 1 [⟨S16384x512, A⟩, ⟨S16384x512, gated O G s⟩] concatenates_S16384x512_S16384x512_S16384x1024_d1

/-- The residual before the second norm: the normed input, scaled, plus the projected heads. -/
def resid (X : FVec Ideal S8x2048x1024 .f32) (A O G : FVec Ideal S16384x512 .f32) (g b : FVec Ideal S1024 .f32)
    (s : FVec Ideal S1x512 .f32) (W : FVec Ideal S1x1024x1024 .f32) : FVec Ideal S16384x1024 .f32 :=
  addf (mulf (broadcastInDim S16384x1024 ![] bcast_S_S16384x1024 (constant S_ .f32 0x3F9837F0#32))
      (normed (shapeCast _ X shapeCasts_S8x2048x1024_S16384x1024) g b))
    (Host.dotGeneral dot_S16384x1024_S1024x1024_S16384x1024_1_0_0_1_n_n none (beside A O G s) (shapeCast _ W shapeCasts_S1x1024x1024_S1024x1024))

/-- The layer's hidden rows after the mixing. -/
def hiddenRows (X : FVec Ideal S8x2048x1024 .f32) (A O G : FVec Ideal S16384x512 .f32) (g b : FVec Ideal S1024 .f32)
    (s : FVec Ideal S1x512 .f32) (W : FVec Ideal S1x1024x1024 .f32) (g1 b1 : FVec Ideal S1x1024 .f32) : FVec Ideal S16384x1024 .f32 :=
  normed (resid X A O G g b s W) (shapeCast _ g1 shapeCasts_S1x1024_S1024) (shapeCast _ b1 shapeCasts_S1x1024_S1024)

/-- The hidden rows of the launch memory's arguments. -/
def hiddenAt (m : (ℓ : Loc nD τ sig) → Buf (Elt Ideal) ℓ) (c : Dev nD) : FVec Ideal S16384x1024 .f32 :=
  hiddenRows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The reference's result is these hidden rows. -/
theorem result_eq (m : (ℓ : Loc nD τ sig) → Buf (Elt Ideal) ℓ) (c : Dev nD) : Value.res_main_v82 m c = hiddenAt m c := rfl

end Cert.MixRefIdeal.Term

end
-- ==== Proof.MixF.lean ====
/- The mixing kernel: its array of hidden rows is the reference's over the same arguments. -/
module

public import proofs.«01_k».proof.Proof.MixTerm
public import proofs.«01_k».proof.Proof.Gen.MixIdeal.Frame
public import Idealize.ShloMosaic.Lib.Claim
public import Idealize.ShloMosaic.Lib.Pipeline.ValueKit

@[expose] public section

set_option maxRecDepth 16384

noncomputable section

namespace Cert.MixIdeal.Finals

open Cert.MixIdeal Cert.MixIdeal.Gen Idealize.ShloMosaic Idealize.ShloMosaic.TcCoe Idealize.SL.Sem
open Idealize.ShloMosaic.Pipeline (Dat)
open Cert.MixRefIdeal.Term (rowMean centred normed headMean headCentred headNormed silu gated beside resid hiddenRows)

variable (m : (ℓ : Loc nD τ sig) → Buf (Elt Ideal) ℓ)

/-- The block each window reads or writes at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_7.index t = ![0, 0] ∧ win0_8.index t = ![0, 0]
    ∧ win0_9.index t = ![0, 0] ∧ win0_13.index t = ![t.val, 0] :=
  (by decide +kernel : ∀ t : Fin grid0.N, _)

/-- The kernel's arguments at launch. -/
abbrev A0 (c : Dev nD) : FVec Ideal S8x2048x1024 .f32 := m ((c.tc : Thread nD τ).loc main_arg0)
@[inherit_doc A0] abbrev A1 (c : Dev nD) : FVec Ideal S16384x512 .f32 := m ((c.tc : Thread nD τ).loc main_arg1)
@[inherit_doc A0] abbrev A2 (c : Dev nD) : FVec Ideal S16384x512 .f32 := m ((c.tc : Thread nD τ).loc main_arg2)
@[inherit_doc A0] abbrev A3 (c : Dev nD) : FVec Ideal S16384x512 .f32 := m ((c.tc : Thread nD τ).loc main_arg3)
@[inherit_doc A0] abbrev A4 (c : Dev nD) : FVec Ideal S1024 .f32 := m ((c.tc : Thread nD τ).loc main_arg4)
@[inherit_doc A0] abbrev A5 (c : Dev nD) : FVec Ideal S1024 .f32 := m ((c.tc : Thread nD τ).loc main_arg5)
@[inherit_doc A0] abbrev A6 (c : Dev nD) : FVec Ideal S1x512 .f32 := m ((c.tc : Thread nD τ).loc main_arg6)
@[inherit_doc A0] abbrev A7 (c : Dev nD) : FVec Ideal S1x1024x1024 .f32 := m ((c.tc : Thread nD τ).loc main_arg7)
@[inherit_doc A0] abbrev A8 (c : Dev nD) : FVec Ideal S1x1024 .f32 := m ((c.tc : Thread nD τ).loc main_arg8)
@[inherit_doc A0] abbrev A9 (c : Dev nD) : FVec Ideal S1x1024 .f32 := m ((c.tc : Thread nD τ).loc main_arg9)

/-- A grid point's normed rows are the reference's. -/
theorem norm_blk (c : Dev nD) (t : Fin cfg0.N) (r : Fin 256) (e : Fin 1024) (s : Fin 16384) (h : (s : ℕ) = t.val * 256 + r) :
    k0_pay7780 (F := Ideal) (iblk m c 0 t) (iblk m c 4 t) (iblk m c 5 t) (ix2 r e)
      = normed (shapeCast _ (A0 m c) Cert.MixRefIdeal.Gen.shapeCasts_S8x2048x1024_S16384x1024) (A4 m c) (A5 m c) (ix2 s e) := by
  pointwise [k0_pay7780, normed, centred, rowMean]
  blk_point [iblk, V, idx t]

/-- One head of the retention's outputs as the kernel norms and gates it. -/
def headTerm (O G : FVec Ideal S256x128 .f32) (g : FVec Ideal S1x128 .f32) : FVec Ideal S256x128 .f32 :=
  let mean := divf (shapeCast S256x1 (multiReduction .add [1] S256 O 0x00000000#32 reduces_S256x128_S256 (.inl rfl) rfl) shapeCasts_S256_S256x1)
    (broadcast S256x1 (Scalar.ofBits .f32 0x43000000#32))
  let cen := subf O (broadcastTo S256x128 mean broadcasts_S256x1_S256x128)
  let var := divf (shapeCast S256x1 (multiReduction .add [1] S256 (mulf cen cen) 0x00000000#32 reduces_S256x128_S256 (.inl rfl) rfl) shapeCasts_S256_S256x1)
    (broadcast S256x1 (Scalar.ofBits .f32 0x43000000#32))
  mulf (mulf (mulf cen (broadcastTo S256x128 (rsqrt (addf var (broadcast S256x1 (Scalar.ofBits .f32 0x3727C5AC#32)))) broadcasts_S256x1_S256x128))
    (broadcastTo S256x128 g broadcasts_S1x128_S256x128)) (mulf G (logistic G))

/-- A head's normed and gated lanes are the reference's. -/
theorem headTerm_at (O G : FVec Ideal S256x128 .f32) (g : FVec Ideal S1x128 .f32) (P Q : FVec Ideal S16384x512 .f32) (p : FVec Ideal S1x512 .f32)
    (h : Fin 4) (r : Fin 256) (s : Fin 16384)
    (hO : ∀ d : Fin 128, O (ix2 r d) = P (ix2 s ⟨(h : ℕ) * 128 + d, by omega⟩)) (hG : ∀ d : Fin 128, G (ix2 r d) = Q (ix2 s ⟨(h : ℕ) * 128 + d, by omega⟩))
    (hg : ∀ d : Fin 128, g (ix2 0 d) = p (ix2 0 ⟨(h : ℕ) * 128 + d, by omega⟩)) (d : Fin 128) :
    headTerm O G g (ix2 r d) = gated P Q p (ix2 s ⟨(h : ℕ) * 128 + d, by omega⟩) := by
  unfold headTerm
  pointwise [gated, headNormed, headCentred, headMean, silu]
  simp only [hO, hG, hg]
  rfl

/-- The residual as the kernel computes it from the normed rows, the five column blocks and the projection weights. -/
def resTerm (N : FVec Ideal S256x1024 .f32) (A : FVec Ideal S256x512 .f32) (H0 H1 H2 H3 : FVec Ideal S256x128 .f32) (W : FVec Ideal S1024x1024 .bf16) :
    FVec Ideal S256x1024 .f32 :=
  addf (mulf (broadcast S256x1024 (Scalar.ofBits .f32 0x3F9837F0#32)) N)
    (matmul dot_S256x1024_S1024x1024_S256x1024_1_0_0_1_n_n none
      (truncf .bf16 (concatenate S256x1024 1 [⟨S256x512, A⟩, ⟨S256x128, H0⟩, ⟨S256x128, H1⟩, ⟨S256x128, H2⟩, ⟨S256x128, H3⟩]
        concatenates_S256x512_S256x128_S256x128_S256x128_S256x128_S256x1024_d1) bitsLt_bf16_f32)
      (shapeCast S1024x1024 W shapeCasts_S1024x1024_S1024x1024) (constant S256x1024 .f32 0x00000000#32))

/-- The kernel's residual is that term, its four heads the norm and gate of the four column blocks. -/
theorem res_eq (N : FVec Ideal S256x1024 .f32) (A O G : FVec Ideal S256x512 .f32) (p : FVec Ideal S1x512 .f32) (W : FVec Ideal S1024x1024 .bf16) :
    k0_pay7788 N O G (k0_pay7781 p) (k0_pay7784 G (k0_pay7781 p) (k0_pay7782 O) (k0_pay7783 O)) (k0_pay7785 O G (k0_pay7781 p)) (k0_pay7786 O)
        (k0_pay7787 O) (FloatOps.ofBits (F := Ideal) FTy.f32 1124073472#32) A W
      = resTerm N A
        (headTerm (extractStridedSlice S256x128 ![0, 0] O slices_S256x512_o0_0_S256x128) (extractStridedSlice S256x128 ![0, 0] G slices_S256x512_o0_0_S256x128)
          (extractStridedSlice S1x128 ![0, 0] (k0_pay7781 p) slices_S1x512_o0_0_S1x128))
        (headTerm (extractStridedSlice S256x128 ![0, 128] O slices_S256x512_o0_128_S256x128) (extractStridedSlice S256x128 ![0, 128] G slices_S256x512_o0_128_S256x128)
          (extractStridedSlice S1x128 ![0, 128] (k0_pay7781 p) slices_S1x512_o0_128_S1x128))
        (headTerm (extractStridedSlice S256x128 ![0, 256] O slices_S256x512_o0_256_S256x128) (extractStridedSlice S256x128 ![0, 256] G slices_S256x512_o0_256_S256x128)
          (extractStridedSlice S1x128 ![0, 256] (k0_pay7781 p) slices_S1x512_o0_256_S1x128))
        (headTerm (extractStridedSlice S256x128 ![0, 384] O slices_S256x512_o0_384_S256x128) (extractStridedSlice S256x128 ![0, 384] G slices_S256x512_o0_384_S256x128)
          (extractStridedSlice S1x128 ![0, 384] (k0_pay7781 p) slices_S1x512_o0_384_S1x128)) W := rfl

/-- A row of the five column blocks is the reference's row of attention outputs and gated retention outputs. -/
theorem beside_at (A : FVec Ideal S256x512 .f32) (H0 H1 H2 H3 : FVec Ideal S256x128 .f32) (B P Q : FVec Ideal S16384x512 .f32) (p : FVec Ideal S1x512 .f32)
    (r : Fin 256) (s : Fin 16384) (hA : ∀ e : Fin 512, A (ix2 r e) = B (ix2 s e))
    (h0 : ∀ d : Fin 128, H0 (ix2 r d) = gated P Q p (ix2 s ⟨((0 : Fin 4) : ℕ) * 128 + d, by omega⟩))
    (h1 : ∀ d : Fin 128, H1 (ix2 r d) = gated P Q p (ix2 s ⟨((1 : Fin 4) : ℕ) * 128 + d, by omega⟩))
    (h2 : ∀ d : Fin 128, H2 (ix2 r d) = gated P Q p (ix2 s ⟨((2 : Fin 4) : ℕ) * 128 + d, by omega⟩))
    (h3 : ∀ d : Fin 128, H3 (ix2 r d) = gated P Q p (ix2 s ⟨((3 : Fin 4) : ℕ) * 128 + d, by omega⟩)) (l : Fin 1024) :
    concatenate S256x1024 1 [⟨S256x512, A⟩, ⟨S256x128, H0⟩, ⟨S256x128, H1⟩, ⟨S256x128, H2⟩, ⟨S256x128, H3⟩]
        concatenates_S256x512_S256x128_S256x128_S256x128_S256x128_S256x1024_d1 (ix2 r l)
      = beside B P Q p (ix2 s l) := by
  unfold beside
  generalize gated P Q p = Z at h0 h1 h2 h3 ⊢
  pointwise []
  simp only [hA, h0, h1, h2, h3]
  split_ifs <;> first | rfl | blk_ext []

/-- A head of the kernel, cut from column `off` on, is the reference's head. -/
theorem headPiece (O G : FVec Ideal S256x512 .f32) (p : FVec Ideal S1x512 .f32) (P Q : FVec Ideal S16384x512 .f32) (p' : FVec Ideal S1x512 .f32)
    (r : Fin 256) (s : Fin 16384) (hO : ∀ d : Fin 512, O (ix2 r d) = P (ix2 s d)) (hG : ∀ d : Fin 512, G (ix2 r d) = Q (ix2 s d))
    (hp : ∀ d : Fin 512, p (ix2 0 d) = p' (ix2 0 d)) (h : Fin 4) (off : ℕ) (ho : (h : ℕ) * 128 = off)
    (i1 : S256x512.Slices ![0, off] S256x128) (i2 : S1x512.Slices ![0, off] S1x128) (d : Fin 128) :
    headTerm (extractStridedSlice S256x128 ![0, off] O i1) (extractStridedSlice S256x128 ![0, off] G i1) (extractStridedSlice S1x128 ![0, off] p i2) (ix2 r d)
      = gated P Q p' (ix2 s ⟨(h : ℕ) * 128 + d, by omega⟩) := by
  subst ho
  refine headTerm_at _ _ _ P Q p' h r s (fun d => Eq.trans ?_ (hO ⟨(h : ℕ) * 128 + d, by omega⟩)) (fun d => Eq.trans ?_ (hG ⟨(h : ℕ) * 128 + d, by omega⟩))
    (fun d => Eq.trans ?_ (hp ⟨(h : ℕ) * 128 + d, by omega⟩)) d <;> pointwise [] <;> blk_ext []

/-- The residual of tiles that hold a row of the reference's arrays is the reference's. -/
theorem res_at (N : FVec Ideal S256x1024 .f32) (A O G : FVec Ideal S256x512 .f32) (p : FVec Ideal S1x512 .f32) (W : FVec Ideal S1024x1024 .bf16)
    (X : FVec Ideal S8x2048x1024 .f32) (B P Q : FVec Ideal S16384x512 .f32) (lg lb : FVec Ideal S1024 .f32) (p' : FVec Ideal S1x512 .f32)
    (W' : FVec Ideal S1x1024x1024 .f32) (r : Fin 256) (e : Fin 1024) (s : Fin 16384)
    (hN : N (ix2 r e) = normed (shapeCast _ X Cert.MixRefIdeal.Gen.shapeCasts_S8x2048x1024_S16384x1024) lg lb (ix2 s e))
    (hA : ∀ d : Fin 512, A (ix2 r d) = B (ix2 s d)) (hO : ∀ d : Fin 512, O (ix2 r d) = P (ix2 s d)) (hG : ∀ d : Fin 512, G (ix2 r d) = Q (ix2 s d))
    (hp : ∀ d : Fin 512, k0_pay7781 p (ix2 0 d) = p' (ix2 0 d)) (hW : ∀ l : Fin 1024, W (ix2 l e) = W' (ix3 0 l e)) :
    k0_pay7788 N O G (k0_pay7781 p) (k0_pay7784 G (k0_pay7781 p) (k0_pay7782 O) (k0_pay7783 O)) (k0_pay7785 O G (k0_pay7781 p)) (k0_pay7786 O)
        (k0_pay7787 O) (FloatOps.ofBits (F := Ideal) FTy.f32 1124073472#32) A W (ix2 r e) = resid X B P Q lg lb p' W' (ix2 s e) := by
  rw [res_eq]
  have hb := beside_at A _ _ _ _ B P Q p' r s hA
    (headPiece O G (k0_pay7781 p) P Q p' r s hO hG hp 0 0 (by decide) slices_S256x512_o0_0_S256x128 slices_S1x512_o0_0_S1x128)
    (headPiece O G (k0_pay7781 p) P Q p' r s hO hG hp 1 128 (by decide) slices_S256x512_o0_128_S256x128 slices_S1x512_o0_128_S1x128)
    (headPiece O G (k0_pay7781 p) P Q p' r s hO hG hp 2 256 (by decide) slices_S256x512_o0_256_S256x128 slices_S1x512_o0_256_S1x128)
    (headPiece O G (k0_pay7781 p) P Q p' r s hO hG hp 3 384 (by decide) slices_S256x512_o0_384_S256x128 slices_S1x512_o0_384_S1x128)
  unfold resTerm resid
  generalize normed (shapeCast _ X Cert.MixRefIdeal.Gen.shapeCasts_S8x2048x1024_S16384x1024) lg lb = N' at hN ⊢
  generalize concatenate S256x1024 1 _ _ = Z at hb ⊢
  generalize beside B P Q p' = Z' at hb ⊢
  pointwise []
  refine Ideal.add_congr (Ideal.mul_congr rfl hN) (Finset.sum_congr rfl fun l _ => Ideal.mul_congr (hb l) ?_)
  refine (hW l).trans ?_
  blk_ext []

/-- A grid point's residual row is the reference's. -/
theorem res_blk (c : Dev nD) (t : Fin cfg0.N) (r : Fin 256) (e : Fin 1024) (s : Fin 16384) (h : (s : ℕ) = t.val * 256 + r) :
    k0_pay7788 (k0_pay7780 (iblk m c 0 t) (iblk m c 4 t) (iblk m c 5 t)) (iblk m c 2 t) (iblk m c 3 t)
        (k0_pay7781 (iblk m c 6 t))
        (k0_pay7784 (iblk m c 3 t) (k0_pay7781 (iblk m c 6 t)) (k0_pay7782 (iblk m c 2 t)) (k0_pay7783 (iblk m c 2 t)))
        (k0_pay7785 (iblk m c 2 t) (iblk m c 3 t) (k0_pay7781 (iblk m c 6 t))) (k0_pay7786 (iblk m c 2 t))
        (k0_pay7787 (iblk m c 2 t)) (FloatOps.ofBits (F := Ideal) FTy.f32 1124073472#32) (iblk m c 1 t) (iblk m c 7 t) (ix2 r e)
      = resid (A0 m c) (A1 m c) (A2 m c) (A3 m c) (A4 m c) (A5 m c) (A6 m c) (A7 m c) (ix2 s e) := by
  refine res_at _ _ _ _ _ _ _ _ _ _ _ _ _ _ r e s (norm_blk m c t r e s h) (fun d => ?_) (fun d => ?_) (fun d => ?_) (fun d => ?_) (fun l => ?_)
  · blk_ext [iblk, V, idx t]
  · blk_ext [iblk, V, idx t]
  · blk_ext [iblk, V, idx t]
  · pointwise [k0_pay7781]
    blk_point [iblk, V, idx t]
  · pointwise []
    blk_point [iblk, V, idx t]

/-- What a grid point stores, at block index `y`, is the reference's value at the array index of `y`. -/
theorem pt (c : Dev nD) (t : Fin cfg0.N) (y : S256x1024.Idx) (j : S16384x1024.Idx)
    (h0 : (j 0 : ℕ) = t.val * 256 + y 0) (h1 : (j 1 : ℕ) = y 1) :
   k0_pay7789
      (k0_pay7788 (k0_pay7780 (iblk m c 0 t) (iblk m c 4 t) (iblk m c 5 t)) (iblk m c 2 t) (iblk m c 3 t)
        (k0_pay7781 (iblk m c 6 t))
        (k0_pay7784 (iblk m c 3 t) (k0_pay7781 (iblk m c 6 t)) (k0_pay7782 (iblk m c 2 t)) (k0_pay7783 (iblk m c 2 t)))
        (k0_pay7785 (iblk m c 2 t) (iblk m c 3 t) (k0_pay7781 (iblk m c 6 t))) (k0_pay7786 (iblk m c 2 t))
        (k0_pay7787 (iblk m c 2 t)) (FloatOps.ofBits (F := Ideal) FTy.f32 1124073472#32) (iblk m c 1 t) (iblk m c 7 t))
      (iblk m c 8 t) (iblk m c 9 t) y =
    hiddenRows (A0 m c) (A1 m c) (A2 m c) (A3 m c) (A4 m c) (A5 m c) (A6 m c) (A7 m c) (A8 m c) (A9 m c) j := by
  idx_vars y
  idx_vars j
  idx_bounds
  have hR := fun e => res_blk m c t y0 e j0 h0
  have hg : ∀ e : Fin 1024, (iblk m c 8 t : FVec Ideal S1x1024 .f32) (ix2 0 e) = A8 m c (ix2 0 e) := fun e => by
    pointwise []
    blk_point [iblk, V, idx t]
  have hb : ∀ e : Fin 1024, (iblk m c 9 t : FVec Ideal S1x1024 .f32) (ix2 0 e) = A9 m c (ix2 0 e) := fun e => by
    pointwise []
    blk_point [iblk, V, idx t]
  obtain rfl : j1 = y1 := Fin.ext h1
  unfold hiddenRows
  generalize k0_pay7788 (F := Ideal) _ _ _ _ _ _ _ _ _ _ _ = R at hR ⊢
  generalize resid (A0 m c) (A1 m c) (A2 m c) (A3 m c) (A4 m c) (A5 m c) (A6 m c) (A7 m c) = R' at hR ⊢
  generalize (iblk m c 8 t : FVec Ideal S1x1024 .f32) = g at hg ⊢
  generalize (iblk m c 9 t : FVec Ideal S1x1024 .f32) = b at hb ⊢
  pointwise [k0_pay7789, normed, centred, rowMean]
  simp only [hR, hg, hb]

/-- The array of hidden rows at the end of the run. -/
theorem final (c : Dev nD) : (dats m 0 c).arrAt 13 (cfgs 0).N
    = hiddenRows (A0 m c) (A1 m c) (A2 m c) (A3 m c) (A4 m c) (A5 m c) (A6 m c) (A7 m c) (A8 m c) (A9 m c) := by
  refine (dats m 0 c).arrAt_eq_of_covers 13 _ (by decide +kernel) fun t _ y => ?_
  blk_simp
  rw [after0_13]
  unfold outsAt0
  frame_out
  exact pt m c t y _ (by blk_simp [idx t]) (by blk_simp [idx t] <;> omega)

end Cert.MixIdeal.Finals

end
-- ==== Proof.MixAlg.lean ====
/- The mixing's value claim: its kernel and its reference end with the same hidden rows. -/
module

public import proofs.«01_k».proof.Defs
public import proofs.«01_k».proof.Proof.MixF

@[expose] public section

set_option maxRecDepth 16384

noncomputable section

namespace Cert.MixIdeal.Claims

open Idealize.ShloMosaic Idealize.ShloMosaic.TcCoe Idealize.SL.Sem Cert.MixIdeal.Finals
open Cert.MixRefIdeal.Term (hiddenRows hiddenAt result_eq)

attribute [local instance] Cert.MixIdeal.Gen.facts Cert.MixRefIdeal.Gen.facts

set_option maxHeartbeats 4000000 in
/-- From equal arguments the mixing's kernel and its reference end with the same array of hidden rows. -/
theorem algebraic : Cert.algebraic_MixIdeal_MixRefIdeal (hMixIdeal := Cert.MixIdeal.Gen.facts) (hMixRefIdeal := Cert.MixRefIdeal.Gen.facts) := by
  intro m g m' g' _ hargs
  have hP : ∀ c : Dev Cert.MixIdeal.nD, hiddenAt m' c
      = hiddenRows (A0 m c) (A1 m c) (A2 m c) (A3 m c) (A4 m c) (A5 m c) (A6 m c) (A7 m c) (A8 m c) (A9 m c) := fun c => by
    obtain ⟨h0, h1, h2, h3, h4, h5, h6, h7, h8, h9, -⟩ := hargs c
    unfold hiddenAt
    rw [h0, h1, h2, h3, h4, h5, h6, h7, h8, h9]
  refine ⟨fun c => hiddenRows (A0 m c) (A1 m c) (A2 m c) (A3 m c) (A4 m c) (A5 m c) (A6 m c) (A7 m c) (A8 m c) (A9 m c), ?_, ?_⟩
  · run_from Cert.MixIdeal.Gen.run_main m g
    exact final m c
  · refine (θ_run Cert.MixRefIdeal.defs _ _).mono (fun r h c => ?_) (Cert.MixRefIdeal.Value.run m' g')
    have := h c
    rw [result_eq, hP c] at this
    exact this

end Cert.MixIdeal.Claims

end
-- ==== Proof.AttPoint.lean ====
/- The attention kernel on one chunk of 64 queries: the terms it computes, and what they are entry by entry. -/
module

public import proofs.«01_k».proof.Proof.Gen.AttIdeal.Frame
public import Idealize.ShloMosaic.Lib.Pointwise
public import Idealize.ShloMosaic.Lib.Claim
public import Idealize.ShloMosaic.Lib.Pipeline.ValueKit

@[expose] public section

set_option maxRecDepth 16384

noncomputable section

namespace Cert.AttIdeal.Point

open Cert.AttIdeal Cert.AttIdeal.Gen Idealize.ShloMosaic Idealize.ShloMosaic.TcCoe Idealize.SL.Sem
open Idealize.ShloMosaic.Pipeline (Dat)

/-- The lanes below 64. -/
def lo : IVec S1x128 1 := cmpi .slt (iota .tc S1x128 32 [1] iota_S1x128_d1_w32) (broadcast S1x128 64#32)

/-- The lanes below 64, for every key. -/
def loK : IVec S208x128 1 := broadcastTo S208x128 (shapeCast S1x128 lo shapeCasts_S1x128_S1x128) broadcasts_S1x128_S208x128

/-- The lanes below 64, for every query. -/
def loQ : IVec S64x128 1 := broadcastTo S64x128 (shapeCast S1x128 lo shapeCasts_S1x128_S1x128) broadcasts_S1x128_S64x128

/-- Half a chunk's keys and values (the band's, then the remembered ones'), lane-rotated by 64. -/
def rot (X : FVec Ideal S208x128 .f32) : FVec Ideal S208x128 .f32 := dynamicRotate 1 64#32 none X rotates_S208x128_d1

/-- The first key head's lanes, twice. -/
def dup0 (X : FVec Ideal S208x128 .f32) : FVec Ideal S208x128 .bf16 := truncf .bf16 (select loK X (rot X)) bitsLt_bf16_f32

/-- The second key head's lanes, twice. -/
def dup1 (X : FVec Ideal S208x128 .f32) : FVec Ideal S208x128 .bf16 := truncf .bf16 (select loK (rot X) X) bitsLt_bf16_f32

/-- The band's rows above the remembered ones. -/
def keys (B : FVec Ideal S192x128 .f32) (M : FVec Ideal S16x128 .f32) : FVec Ideal S208x128 .f32 :=
  concatenate S208x128 0 [⟨S192x128, B⟩, ⟨S16x128, M⟩] concatenates_S192x128_S16x128_S208x128_d0

/-- Four heads' queries stacked, each in its own half of the lanes. -/
def stack (qa qb : FVec Ideal S64x128 .f32) : FVec Ideal S256x128 .bf16 :=
  truncf .bf16 (concatenate S256x128 0
    [⟨S64x128, select loQ qa (broadcast S64x128 (Scalar.ofBits .f32 0x00000000#32))⟩, ⟨S64x128, select loQ (broadcast S64x128 (Scalar.ofBits .f32 0x00000000#32)) qa⟩,
     ⟨S64x128, select loQ qb (broadcast S64x128 (Scalar.ofBits .f32 0x00000000#32))⟩, ⟨S64x128, select loQ (broadcast S64x128 (Scalar.ofBits .f32 0x00000000#32)) qb⟩]
    concatenates_S64x128_S64x128_S64x128_S64x128_S256x128_d0) bitsLt_bf16_f32

/-- Four heads' products of queries and keys. -/
def score (qa qb : FVec Ideal S64x128 .f32) (kd : FVec Ideal S208x128 .bf16) : FVec Ideal S256x208 .f32 :=
  matmul dot_S256x128_S208x128_S256x208_1_1_0_0_n_n none (stack qa qb) kd (constant S256x208 .f32 0x00000000#32)

/-- Four heads' scores: scaled, with the position bias, and masked before the sequence's start. -/
def logit (s : FVec Ideal S256x208 .f32) (b0 b1 b2 b3 : FVec Ideal S1x64x208 .f32) (v : BitVec 32) : FVec Ideal S256x208 .f32 :=
  select (cmpi .sge (iota .tc S256x208 32 [1] iota_S256x208_d1_w32) (broadcast S256x208 v))
    (addf (mulf s (broadcast S256x208 (Scalar.ofBits .f32 0x3E000000#32)))
      (concatenate S256x208 0 [⟨S64x208, shapeCast S64x208 b0 shapeCasts_S1x64x208_S64x208⟩, ⟨S64x208, shapeCast S64x208 b1 shapeCasts_S1x64x208_S64x208⟩,
        ⟨S64x208, shapeCast S64x208 b2 shapeCasts_S1x64x208_S64x208⟩, ⟨S64x208, shapeCast S64x208 b3 shapeCasts_S1x64x208_S64x208⟩]
        concatenates_S64x208_S64x208_S64x208_S64x208_S256x208_d0))
    (broadcast S256x208 (Named.named κ "mask" 0xF149F2CA#32))

/-- Each stacked row's sink score. -/
def sinkRow (s0 s1 s2 s3 : Ideal .f32) : FVec Ideal S256x1 .f32 :=
  select (cmpi .slt (iota .tc S256x1 32 [0] iota_S256x1_d0_w32) (broadcast S256x1 64#32)) (broadcast S256x1 s0)
    (select (cmpi .slt (iota .tc S256x1 32 [0] iota_S256x1_d0_w32) (broadcast S256x1 128#32)) (broadcast S256x1 s1)
      (select (cmpi .slt (iota .tc S256x1 32 [0] iota_S256x1_d0_w32) (broadcast S256x1 192#32)) (broadcast S256x1 s2) (broadcast S256x1 s3)))

/-- Each stacked row's largest score, its sink's included. -/
def top (L : FVec Ideal S256x208 .f32) (s : FVec Ideal S256x1 .f32) : FVec Ideal S256x1 .f32 :=
  maximumf (shapeCast S256x1 (multiReduction .maximumf [1] S256 L 0xFF800000#32 reduces_S256x208_S256 (.inl rfl) rfl) shapeCasts_S256_S256x1) s

/-- The weights of the keys: the exponentials over their sum and the sink's. -/
def weight (L : FVec Ideal S256x208 .f32) (s : FVec Ideal S256x1 .f32) : FVec Ideal S256x208 .bf16 :=
  truncf .bf16
    (divf (exp (subf L (broadcastTo S256x208 (top L s) broadcasts_S256x1_S256x208)))
      (broadcastTo S256x208
        (addf (shapeCast S256x1 (multiReduction .add [1] S256 (exp (subf L (broadcastTo S256x208 (top L s) broadcasts_S256x1_S256x208))) 0x00000000#32
          reduces_S256x208_S256 (.inl rfl) rfl) shapeCasts_S256_S256x1) (exp (subf s (top L s)))) broadcasts_S256x1_S256x208)) bitsLt_bf16_f32

/-- Four heads' weighted sums of the values. -/
def mixed (w : FVec Ideal S256x208 .bf16) (vd : FVec Ideal S208x128 .bf16) : FVec Ideal S256x128 .f32 :=
  matmul dot_S256x208_S208x128_S256x128_1_0_0_1_n_n none w vd (constant S256x128 .f32 0x00000000#32)

/-- The first two heads side by side. -/
def pairA (o : FVec Ideal S256x128 .f32) : FVec Ideal S64x128 .f32 :=
  select loQ (extractStridedSlice S64x128 ![0, 0] o slices_S256x128_o0_0_S64x128) (extractStridedSlice S64x128 ![64, 0] o slices_S256x128_o64_0_S64x128)

/-- The last two heads side by side. -/
def pairB (o : FVec Ideal S256x128 .f32) : FVec Ideal S64x128 .f32 :=
  select loQ (extractStridedSlice S64x128 ![128, 0] o slices_S256x128_o128_0_S64x128) (extractStridedSlice S64x128 ![192, 0] o slices_S256x128_o192_0_S64x128)

/-- The eight heads side by side. -/
def row (A B C D : FVec Ideal S64x128 .f32) : FVec Ideal S1x64x512 .f32 :=
  shapeCast S1x64x512 (concatenate S64x512 1 [⟨S64x128, A⟩, ⟨S64x128, B⟩, ⟨S64x128, C⟩, ⟨S64x128, D⟩]
    concatenates_S64x128_S64x128_S64x128_S64x128_S64x512_d1) shapeCasts_S64x512_S1x64x512

/-- One chunk's outputs as the kernel computes them. -/
def chunk (bnd : FVec Ideal S192x256 .f32) (mt : FVec Ideal S16x256 .f32) (q : FVec Ideal S64x512 .f32)
    (b0 b1 b2 b3 b4 b5 b6 b7 : FVec Ideal S1x64x208 .f32) (s0 s1 s2 s3 s4 s5 s6 s7 : Ideal .f32) (v : BitVec 32) : FVec Ideal S1x64x512 .f32 :=
  let kk := keys (extractStridedSlice S192x128 ![0, 0] bnd slices_S192x256_o0_0_S192x128) (extractStridedSlice S16x128 ![0, 0] mt slices_S16x256_o0_0_S16x128)
  let vv := keys (extractStridedSlice S192x128 ![0, 128] bnd slices_S192x256_o0_128_S192x128) (extractStridedSlice S16x128 ![0, 128] mt slices_S16x256_o0_128_S16x128)
  let oa := mixed (weight (logit (score (extractStridedSlice S64x128 ![0, 0] q slices_S64x512_o0_0_S64x128) (extractStridedSlice S64x128 ![0, 128] q slices_S64x512_o0_128_S64x128) (dup0 kk))
    b0 b1 b2 b3 v) (sinkRow s0 s1 s2 s3)) (dup0 vv)
  let ob := mixed (weight (logit (score (extractStridedSlice S64x128 ![0, 256] q slices_S64x512_o0_256_S64x128) (extractStridedSlice S64x128 ![0, 384] q slices_S64x512_o0_384_S64x128) (dup1 kk))
    b4 b5 b6 b7 v) (sinkRow s4 s5 s6 s7)) (dup1 vv)
  row (pairA oa) (pairB oa) (pairA ob) (pairB ob)

/-- Row `i` of stacked head `g`. -/
abbrev rowOf (g : Fin 4) (i : Fin 64) : Fin 256 := ⟨(g : ℕ) * 64 + i, by omega⟩

/-- Lane `d` of half `h`. -/
abbrev half (h : Fin 2) (d : Fin 64) : Fin 128 := ⟨(h : ℕ) * 64 + d, by omega⟩

/-- A selection on a small number's comparison with another. -/
theorem sel_slt {α : Type} (a b : α) (n k : ℕ) (hn : n < 2 ^ 31) (hk : k < 2 ^ 31) :
    Scalar.select (IntOp.cmpi .slt (BitVec.ofNat 32 n) (BitVec.ofNat 32 k)) a b = if n < k then a else b := by
  have h : (BitVec.ofNat 32 n).slt (BitVec.ofNat 32 k) = decide (n < k) := by
    have tn : (BitVec.ofNat 32 n).toInt = n := by rw [BitVec.toInt_eq_toNat_bmod, BitVec.toNat_ofNat, Int.bmod_def]; omega
    have tk : (BitVec.ofNat 32 k).toInt = k := by rw [BitVec.toInt_eq_toNat_bmod, BitVec.toNat_ofNat, Int.bmod_def]; omega
    rw [BitVec.slt_eq_decide, tn, tk]
    simp
  by_cases h' : n < k <;> simp [Scalar.select, IntOp.cmpi, h, h']

/-- The same of the opposite comparison. -/
theorem sel_sge {α : Type} (a b : α) (n k : ℕ) (hn : n < 2 ^ 31) (hk : k < 2 ^ 31) :
    Scalar.select (IntOp.cmpi .sge (BitVec.ofNat 32 n) (BitVec.ofNat 32 k)) a b = if n < k then b else a := by
  have h : (BitVec.ofNat 32 k).sle (BitVec.ofNat 32 n) = decide (k ≤ n) := by
    have tn : (BitVec.ofNat 32 n).toInt = n := by rw [BitVec.toInt_eq_toNat_bmod, BitVec.toNat_ofNat, Int.bmod_def]; omega
    have tk : (BitVec.ofNat 32 k).toInt = k := by rw [BitVec.toInt_eq_toNat_bmod, BitVec.toNat_ofNat, Int.bmod_def]; omega
    rw [BitVec.sle_eq_decide, tn, tk]
    simp
  by_cases h' : n < k <;> simp [Scalar.select, IntOp.cmpi, h, h', Nat.not_le.mpr, Nat.le_of_not_lt]

/-- The first key head's lanes stand in both halves. -/
theorem dup0_at (X : FVec Ideal S208x128 .f32) (j : Fin 208) (l : Fin 128) :
    dup0 X (ix2 j l) = X (ix2 j ⟨(l : ℕ) % 64, by omega⟩) := by
  pointwise [dup0, loK, lo, rot]
  rw [sel_slt _ _ _ 64 (by omega) (by omega)]
  split_ifs <;> blk_ext []

/-- The second key head's lanes stand in both halves. -/
theorem dup1_at (X : FVec Ideal S208x128 .f32) (j : Fin 208) (l : Fin 128) :
    dup1 X (ix2 j l) = X (ix2 j ⟨64 + (l : ℕ) % 64, by omega⟩) := by
  pointwise [dup1, loK, lo, rot]
  rw [sel_slt _ _ _ 64 (by omega) (by omega)]
  split_ifs <;> blk_ext []

/-- Four tiles stacked: a row of the stack is a row of one of them. -/
theorem cat4_at (p0 p1 p2 p3 : FVec Ideal S64x128 .f32) (g : Fin 4) (i : Fin 64) (l : Fin 128) :
    concatenate S256x128 0 [⟨S64x128, p0⟩, ⟨S64x128, p1⟩, ⟨S64x128, p2⟩, ⟨S64x128, p3⟩]
      concatenates_S64x128_S64x128_S64x128_S64x128_S256x128_d0 (ix2 (rowOf g i) l) = ![p0, p1, p2, p3] g (ix2 i l) := by
  fin_cases g
  all_goals
    pointwise []
    try split_ifs
    all_goals first | omega | rfl | blk_ext []

/-- A stacked row holds its head's queries in its own half of the lanes and zero in the other. -/
theorem stack_at (qa qb : FVec Ideal S64x128 .f32) (g : Fin 4) (i : Fin 64) (l : Fin 128) :
    stack qa qb (ix2 (rowOf g i) l) = if (l : ℕ) / 64 = (g : ℕ) % 2 then (if (g : ℕ) < 2 then qa else qb) (ix2 i l) else 0 := by
  refine (cat4_at _ _ _ _ g i l).trans ?_
  fin_cases g
  all_goals
    simp only [loQ, lo]
    pointwise []
    simp (disch := omega) only [sel_slt]
    split_ifs <;> first | omega | rfl

/-- A key's weight: its score's exponential over the sum of all of them and the sink's, all less the largest score. -/
def share (L : Fin 208 → EReal) (s : EReal) (j : Fin 208) : EReal :=
  Ideal.div (Ideal.exp (L j - max (Finset.univ.fold max (Ideal.ofBits .f32 0xFF800000#32) L) s))
    (∑ k, Ideal.exp (L k - max (Finset.univ.fold max (Ideal.ofBits .f32 0xFF800000#32) L) s)
      + Ideal.exp (s - max (Finset.univ.fold max (Ideal.ofBits .f32 0xFF800000#32) L) s))

/-- Attention of one query with scores `L`, sink score `s` and values `v`. -/
def attend (L : Fin 208 → EReal) (s : EReal) (v : Fin 208 → EReal) : EReal := ∑ j, share L s j * v j

/-- The weighted sums, row by row, are attention with the row's scores. -/
theorem mixed_at (L : FVec Ideal S256x208 .f32) (s : FVec Ideal S256x1 .f32) (v : FVec Ideal S208x128 .bf16) (r : Fin 256) (l : Fin 128) :
    mixed (weight L s) v (ix2 r l) = attend (fun j => L (ix2 r j)) (s (ix2 r 0)) (fun j => v (ix2 j l)) := by
  unfold attend share
  pointwise [mixed, weight, top]

/-- A stacked row's sink score is its head's. -/
theorem sinkRow_at (s : Fin 4 → Ideal .f32) (g : Fin 4) (i : Fin 64) : sinkRow (s 0) (s 1) (s 2) (s 3) (ix2 (rowOf g i) 0) = s g := by
  fin_cases g
  all_goals
    pointwise [sinkRow]
    simp (disch := omega) only [sel_slt]
    split_ifs <;> first | omega | rfl

/-- A stacked row's products are its head's queries times the keys of its half of the lanes. -/
theorem score_at (qa qb : FVec Ideal S64x128 .f32) (kd : FVec Ideal S208x128 .bf16) (g : Fin 4) (i : Fin 64) (j : Fin 208) :
    score qa qb kd (ix2 (rowOf g i) j)
      = ∑ d : Fin 64, (if (g : ℕ) < 2 then qa else qb) (ix2 i ⟨(g : ℕ) % 2 * 64 + d, by omega⟩) * kd (ix2 j ⟨(g : ℕ) % 2 * 64 + d, by omega⟩) := by
  have h : score qa qb kd (ix2 (rowOf g i) j) = ∑ l : Fin 128, stack qa qb (ix2 (rowOf g i) l) * kd (ix2 j l) := by
    pointwise [score]
  rw [h]
  simp only [stack_at]
  generalize (if (g : ℕ) < 2 then qa else qb) = q
  rw [show (∑ l : Fin 128, (if (l : ℕ) / 64 = (g : ℕ) % 2 then q (ix2 i l) else 0) * kd (ix2 j l))
      = ∑ l : Fin (64 + 64), (if (l : ℕ) / 64 = (g : ℕ) % 2 then q (ix2 i l) else 0) * kd (ix2 j l) from rfl, Fin.sum_univ_add]
  have hlo : ∀ x : Fin 64, (x : ℕ) / 64 = 0 := fun x => by omega
  have hhi : ∀ x : Fin 64, (64 + (x : ℕ)) / 64 = 1 := fun x => by omega
  fin_cases g <;> simp only [Fin.val_castAdd, Fin.val_natAdd, hlo, hhi] <;>
    simp <;> exact Finset.sum_congr rfl fun x _ => Ideal.mul_congr (congrArg q (congrArg (ix2 i) (Fin.ext (by simp [Nat.add_comm]))))
      (congrArg kd (congrArg (ix2 j) (Fin.ext (by simp [Nat.add_comm]))))

/-- A stacked row's score: scaled, with its head's bias, masked below the first valid key. -/
theorem logit_at (s : FVec Ideal S256x208 .f32) (b : Fin 4 → FVec Ideal S1x64x208 .f32) (v : ℕ) (hv : v < 208) (g : Fin 4) (i : Fin 64) (j : Fin 208) :
    logit s (b 0) (b 1) (b 2) (b 3) (BitVec.ofNat 32 v) (ix2 (rowOf g i) j)
      = if (j : ℕ) < v then ⊥ else s (ix2 (rowOf g i) j) * Ideal.ofBits .f32 0x3E000000#32 + b g (ix3 0 i j) := by
  have hm : (Named.named κ "mask" 0xF149F2CA#32 : Ideal .f32) = ⊥ := rfl
  fin_cases g
  all_goals
    pointwise [logit]
    simp (disch := omega) only [sel_sge, hm]
    try split_ifs <;> first | omega | rfl | blk_ext [] | (refine Ideal.add_congr rfl ?_; blk_ext [])

/-- Head `g` of key head `p`, of eight. -/
abbrev head (p : Fin 2) (g : Fin 4) : Fin 8 := ⟨(p : ℕ) * 4 + g, by omega⟩

/-- Lane `d` of a head, among all heads' lanes. -/
abbrev lane (a : Fin 8) (d : Fin 64) : Fin 512 := ⟨(a : ℕ) * 64 + d, by omega⟩

/-- The eight heads side by side: head `g` of key head `p` comes from that key head's stack. -/
theorem row_at (oa ob : FVec Ideal S256x128 .f32) (p : Fin 2) (g : Fin 4) (i d : Fin 64) :
    row (pairA oa) (pairB oa) (pairA ob) (pairB ob) (ix3 0 i (lane (head p g) d))
      = ![oa, ob] p (ix2 (rowOf g i) ⟨(g : ℕ) % 2 * 64 + d, by omega⟩) := by
  fin_cases p <;> fin_cases g
  all_goals
    pointwise [row, pairA, pairB, loQ, lo]
    simp (disch := omega) only [sel_slt]
    try split_ifs
    all_goals first | omega | rfl | blk_ext []

/-- Four heads of one key head: each stacked row is attention over that key head's lanes. -/
theorem group_at (qa qb : FVec Ideal S64x128 .f32) (kd vd : FVec Ideal S208x128 .bf16) (kk vv : Fin 208 → Fin 128 → EReal)
    (b : Fin 4 → FVec Ideal S1x64x208 .f32) (s : Fin 4 → Ideal .f32) (v : ℕ) (hv : v < 208) (p : Fin 2)
    (hk : ∀ (j : Fin 208) (l : Fin 128), kd (ix2 j l) = kk j ⟨(p : ℕ) * 64 + (l : ℕ) % 64, by omega⟩)
    (hvv : ∀ (j : Fin 208) (l : Fin 128), vd (ix2 j l) = vv j ⟨(p : ℕ) * 64 + (l : ℕ) % 64, by omega⟩)
    (g : Fin 4) (i d : Fin 64) :
    mixed (weight (logit (score qa qb kd) (b 0) (b 1) (b 2) (b 3) (BitVec.ofNat 32 v)) (sinkRow (s 0) (s 1) (s 2) (s 3))) vd
        (ix2 (rowOf g i) ⟨(g : ℕ) % 2 * 64 + d, by omega⟩)
      = attend (fun j => if (j : ℕ) < v then ⊥ else
            (∑ e : Fin 64, (if (g : ℕ) < 2 then qa else qb) (ix2 i ⟨(g : ℕ) % 2 * 64 + e, by omega⟩)
              * kk j ⟨(p : ℕ) * 64 + e, by omega⟩) * Ideal.ofBits .f32 0x3E000000#32 + b g (ix3 0 i j))
          (s g) (fun j => vv j ⟨(p : ℕ) * 64 + d, by omega⟩) := by
  have hl : ∀ x : Fin 64, ((g : ℕ) % 2 * 64 + (x : ℕ)) % 64 = x := fun x => by omega
  rw [mixed_at, sinkRow_at]
  simp only [logit_at _ _ _ hv, score_at, hk, hvv, hl]

/-- The keys (values) a chunk sees: its band's rows, then the remembered ones. -/
def seen (B : FVec Ideal S192x256 .f32) (M : FVec Ideal S16x256 .f32) (j : Fin 208) (l : Fin 256) : EReal :=
  if h : (j : ℕ) < 192 then B (ix2 ⟨j, h⟩ l) else M (ix2 ⟨(j : ℕ) - 192, by omega⟩ l)

/-- One chunk's outputs: every head attends to the keys its chunk sees. -/
theorem chunk_at (bnd : FVec Ideal S192x256 .f32) (mt : FVec Ideal S16x256 .f32) (q : FVec Ideal S64x512 .f32)
    (b : Fin 8 → FVec Ideal S1x64x208 .f32) (s : Fin 8 → Ideal .f32) (v : ℕ) (hv : v < 208) (p : Fin 2) (g : Fin 4) (i d : Fin 64) :
    chunk bnd mt q (b 0) (b 1) (b 2) (b 3) (b 4) (b 5) (b 6) (b 7) (s 0) (s 1) (s 2) (s 3) (s 4) (s 5) (s 6) (s 7) (BitVec.ofNat 32 v)
        (ix3 0 i (lane (head p g) d))
      = attend (fun j => if (j : ℕ) < v then ⊥ else
            (∑ e : Fin 64, q (ix2 i (lane (head p g) e)) * seen bnd mt j ⟨(p : ℕ) * 64 + e, by omega⟩)
              * Ideal.ofBits .f32 0x3E000000#32 + b (head p g) (ix3 0 i j))
          (s (head p g)) (fun j => seen bnd mt j ⟨128 + ((p : ℕ) * 64 + d), by omega⟩) := by
  unfold chunk
  refine (row_at _ _ p g i d).trans ?_
  have hK : ∀ (j : Fin 208) (l : Fin 128), keys (extractStridedSlice S192x128 ![0, 0] bnd slices_S192x256_o0_0_S192x128)
      (extractStridedSlice S16x128 ![0, 0] mt slices_S16x256_o0_0_S16x128) (ix2 j l) = seen bnd mt j ⟨l, by omega⟩ := fun j l => by
    unfold seen
    pointwise [keys]
  have hV : ∀ (j : Fin 208) (l : Fin 128), keys (extractStridedSlice S192x128 ![0, 128] bnd slices_S192x256_o0_128_S192x128)
      (extractStridedSlice S16x128 ![0, 128] mt slices_S16x256_o0_128_S16x128) (ix2 j l) = seen bnd mt j ⟨128 + l, by omega⟩ := fun j l => by
    unfold seen
    pointwise [keys]
  have hq0 : ∀ e : Fin 64, (if (g : ℕ) < 2 then extractStridedSlice S64x128 ![0, 0] q slices_S64x512_o0_0_S64x128
      else extractStridedSlice S64x128 ![0, 128] q slices_S64x512_o0_128_S64x128)
      (ix2 i ⟨(g : ℕ) % 2 * 64 + e, by omega⟩) = q (ix2 i (lane (head 0 g) e)) := fun e => by
    fin_cases g <;> pointwise [] <;> blk_ext []
  have hq1 : ∀ e : Fin 64, (if (g : ℕ) < 2 then extractStridedSlice S64x128 ![0, 256] q slices_S64x512_o0_256_S64x128
      else extractStridedSlice S64x128 ![0, 384] q slices_S64x512_o0_384_S64x128)
      (ix2 i ⟨(g : ℕ) % 2 * 64 + e, by omega⟩) = q (ix2 i (lane (head 1 g) e)) := fun e => by
    fin_cases g <;> pointwise [] <;> blk_ext []
  obtain rfl | rfl : p = 0 ∨ p = 1 := by omega
  · refine (group_at _ _ _ _ (fun j l => seen bnd mt j ⟨l, by omega⟩) (fun j l => seen bnd mt j ⟨128 + l, by omega⟩)
      (fun g => b (head 0 g)) (fun g => s (head 0 g)) v hv 0 (fun j l => ?_) (fun j l => ?_) g i d).trans ?_
    · exact (dup0_at _ j l).trans ((hK _ _).trans (congrArg (seen bnd mt j) (Fin.ext (by simp))))
    · exact (dup0_at _ j l).trans ((hV _ _).trans (congrArg (seen bnd mt j) (Fin.ext (by simp))))
    · refine congrArg (fun L => attend L _ _) (funext fun j => ?_)
      refine if_congr Iff.rfl rfl (congrArg (· + _) (congrArg (· * _) (Finset.sum_congr rfl fun e _ => congrArg (· * _) ?_)))
      exact hq0 e
  · refine (group_at _ _ _ _ (fun j l => seen bnd mt j ⟨l, by omega⟩) (fun j l => seen bnd mt j ⟨128 + l, by omega⟩)
      (fun g => b (head 1 g)) (fun g => s (head 1 g)) v hv 1 (fun j l => ?_) (fun j l => ?_) g i d).trans ?_
    · exact (dup1_at _ j l).trans ((hK _ _).trans (congrArg (seen bnd mt j) (Fin.ext (by simp))))
    · exact (dup1_at _ j l).trans ((hV _ _).trans (congrArg (seen bnd mt j) (Fin.ext (by simp))))
    · refine congrArg (fun L => attend L _ _) (funext fun j => ?_)
      refine if_congr Iff.rfl rfl (congrArg (· + _) (congrArg (· * _) (Finset.sum_congr rfl fun e _ => congrArg (· * _) ?_)))
      exact hq1 e

/-- The same, of eight tiles of biases and eight sink scores given one by one. -/
theorem chunk_ix (bnd : FVec Ideal S192x256 .f32) (mt : FVec Ideal S16x256 .f32) (q : FVec Ideal S64x512 .f32)
    (b0 b1 b2 b3 b4 b5 b6 b7 : FVec Ideal S1x64x208 .f32) (s0 s1 s2 s3 s4 s5 s6 s7 : Ideal .f32)
    (w : BitVec 32) (v : ℕ) (hv : v < 208) (hw : w = BitVec.ofNat 32 v) (p : Fin 2) (g : Fin 4) (i d : Fin 64) :
    chunk bnd mt q b0 b1 b2 b3 b4 b5 b6 b7 s0 s1 s2 s3 s4 s5 s6 s7 w (ix3 0 i (lane (head p g) d))
      = attend (fun j => if (j : ℕ) < v then ⊥ else
            (∑ e : Fin 64, q (ix2 i (lane (head p g) e)) * seen bnd mt j ⟨(p : ℕ) * 64 + e, by omega⟩)
              * Ideal.ofBits .f32 0x3E000000#32 + ![b0, b1, b2, b3, b4, b5, b6, b7] (head p g) (ix3 0 i j))
          (![s0, s1, s2, s3, s4, s5, s6, s7] (head p g)) (fun j => seen bnd mt j ⟨128 + ((p : ℕ) * 64 + d), by omega⟩) := by
  subst hw
  exact chunk_at bnd mt q ![b0, b1, b2, b3, b4, b5, b6, b7] ![s0, s1, s2, s3, s4, s5, s6, s7] v hv p g i d

/-- Row of the sequence that chunk `c`'s key `j` is loaded from. -/
def from_ (c : Fin 32) (j : Fin 192) : Fin 2048 :=
  ⟨if (c : ℕ) % 4 * 64 + j < 128 then ((c : ℕ) / 4 - 1) * 256 + (128 + ((c : ℕ) % 4 * 64 + j)) else (c : ℕ) / 4 * 256 + ((c : ℕ) % 4 * 64 + j - 128), by
    split_ifs <;> omega⟩

/-- The keys and values chunk `c` of batch `b` sees. -/
def sees (kv : FVec Ideal S8x2048x256 .f32) (mt : FVec Ideal S16x256 .f32) (b : Fin 8) (c : Fin 32) (j : Fin 208) (l : Fin 256) : EReal :=
  if h : (j : ℕ) < 192 then kv (ix3 b (from_ c ⟨j, h⟩) l) else mt (ix2 ⟨(j : ℕ) - 192, by omega⟩ l)

/-- The kernel's result for query `i` of chunk `c`, lane `d` of head `g` of key head `p`. -/
def result (sk : FVec Ideal S8 .f32) (q : FVec Ideal S8x2048x512 .f32) (kv : FVec Ideal S8x2048x256 .f32) (mt : FVec Ideal S16x256 .f32)
    (bs : FVec Ideal S3x8x64x208 .f32) (b : Fin 8) (c : Fin 32) (i : Fin 64) (p : Fin 2) (g : Fin 4) (d : Fin 64) : EReal :=
  attend (fun j => if (j : ℕ) < (2 - min (c : ℕ) 2) * 64 then ⊥ else
        (∑ e : Fin 64, q (ix3 b ⟨(c : ℕ) * 64 + i, by omega⟩ (lane (head p g) e)) * sees kv mt b c j ⟨(p : ℕ) * 64 + e, by omega⟩)
          * Ideal.ofBits .f32 0x3E000000#32 + bs (ix4 ⟨min (c : ℕ) 2, by omega⟩ (head p g) i j))
      (sk (ix1 (head p g))) (fun j => sees kv mt b c j ⟨128 + ((p : ℕ) * 64 + d), by omega⟩)

/-- An index of a chunk's outputs: its query and its head's lane. -/
theorem split_lane (x : S1x64x512.Idx) : ∃ (p : Fin 2) (g : Fin 4) (i d : Fin 64), x = ix3 0 i (lane (head p g) d) := by
  idx_vars x
  refine ⟨⟨(x2 : ℕ) / 256, by omega⟩, ⟨(x2 : ℕ) / 64 % 4, by omega⟩, x1, ⟨(x2 : ℕ) % 64, by omega⟩, ?_⟩
  blk_ext []
  all_goals omega

/-- One chunk's outputs are the kernel's result, given what its tiles hold. -/
theorem chunk_result (sk : FVec Ideal S8 .f32) (q : FVec Ideal S8x2048x512 .f32) (kv : FVec Ideal S8x2048x256 .f32) (mt : FVec Ideal S16x256 .f32)
    (bs : FVec Ideal S3x8x64x208 .f32) (b : Fin 8) (c : Fin 32)
    (bnd : FVec Ideal S192x256 .f32) (M : FVec Ideal S16x256 .f32) (Q : FVec Ideal S64x512 .f32)
    (b0 b1 b2 b3 b4 b5 b6 b7 : FVec Ideal S1x64x208 .f32) (s0 s1 s2 s3 s4 s5 s6 s7 : Ideal .f32)
    (w : BitVec 32) (hw : w = BitVec.ofNat 32 ((2 - min (c : ℕ) 2) * 64))
    (hb : ∀ (j : Fin 192) (l : Fin 256), bnd (ix2 j l) = kv (ix3 b (from_ c j) l))
    (hM : ∀ (j : Fin 16) (l : Fin 256), M (ix2 j l) = mt (ix2 j l))
    (hQ : ∀ (i : Fin 64) (l : Fin 512), Q (ix2 i l) = q (ix3 b ⟨(c : ℕ) * 64 + i, by omega⟩ l))
    (hB : ∀ (a : Fin 8) (i : Fin 64) (j : Fin 208), ![b0, b1, b2, b3, b4, b5, b6, b7] a (ix3 0 i j) = bs (ix4 ⟨min (c : ℕ) 2, by omega⟩ a i j))
    (hs : ∀ a : Fin 8, ![s0, s1, s2, s3, s4, s5, s6, s7] a = sk (ix1 a)) (p : Fin 2) (g : Fin 4) (i d : Fin 64) :
    chunk bnd M Q b0 b1 b2 b3 b4 b5 b6 b7 s0 s1 s2 s3 s4 s5 s6 s7 w (ix3 0 i (lane (head p g) d)) = result sk q kv mt bs b c i p g d := by
  refine (chunk_ix _ _ _ _ _ _ _ _ _ _ _ _ _ _ _ _ _ _ _ _ _ (by omega) hw _ _ _ _).trans ?_
  have hseen : ∀ j l, seen bnd M j l = sees kv mt b c j l := fun j l => by
    unfold seen sees
    simp only [hb, hM]
  unfold result
  simp only [hseen, hQ, hB, hs]

/-- The kernel's whole result. -/
def whole (sk : FVec Ideal S8 .f32) (q : FVec Ideal S8x2048x512 .f32) (kv : FVec Ideal S8x2048x256 .f32) (mt : FVec Ideal S16x256 .f32)
    (bs : FVec Ideal S3x8x64x208 .f32) : FVec Ideal S8x2048x512 .f32 := fun y =>
  have h1 : (y 1 : ℕ) < 2048 := (y 1).isLt
  have h2 : (y 2 : ℕ) < 512 := (y 2).isLt
  result sk q kv mt bs (y 0) ⟨(y 1 : ℕ) / 64, by omega⟩ ⟨(y 1 : ℕ) % 64, by omega⟩ ⟨(y 2 : ℕ) / 256, by omega⟩ ⟨(y 2 : ℕ) / 64 % 4, by omega⟩
    ⟨(y 2 : ℕ) % 64, by omega⟩

/-- The whole result, chunk by chunk and head by head. -/
theorem whole_at (sk : FVec Ideal S8 .f32) (q : FVec Ideal S8x2048x512 .f32) (kv : FVec Ideal S8x2048x256 .f32) (mt : FVec Ideal S16x256 .f32)
    (bs : FVec Ideal S3x8x64x208 .f32) (b : Fin 8) (c : Fin 32) (p : Fin 2) (g : Fin 4) (i d : Fin 64) :
    whole sk q kv mt bs (ix3 b ⟨(c : ℕ) * 64 + i, by omega⟩ (lane (head p g) d)) = result sk q kv mt bs b c i p g d := by
  have e1 : ((c : ℕ) * 64 + i) / 64 = c := by omega
  have e2 : ((c : ℕ) * 64 + i) % 64 = i := by omega
  have e3 : (((p : ℕ) * 4 + g) * 64 + d) / 256 = p := by omega
  have e4 : (((p : ℕ) * 4 + g) * 64 + d) / 64 % 4 = g := by omega
  have e5 : (((p : ℕ) * 4 + g) * 64 + d) % 64 = d := by omega
  exact (show result sk q kv mt bs b ⟨((c : ℕ) * 64 + i) / 64, by omega⟩ ⟨((c : ℕ) * 64 + i) % 64, by omega⟩
    ⟨(((p : ℕ) * 4 + g) * 64 + d) / 256, by omega⟩ ⟨(((p : ℕ) * 4 + g) * 64 + d) / 64 % 4, by omega⟩ ⟨(((p : ℕ) * 4 + g) * 64 + d) % 64, by omega⟩
      = result sk q kv mt bs b c i p g d by simp only [e1, e2, e3, e4, e5])

/-- An entry of one bias table, read through a slice of the three. -/
theorem table_at (X : FVec Ideal S3x8x64x208 .f32) (k : Fin 3) (off : Fin 4 → ℕ) (ho : off = ![(k : ℕ), 0, 0, 0])
    (inb : ∀ a, off a + S1x8x64x208.size a ≤ S3x8x64x208.size a) (hn : S8x64x208.numel = S1x8x64x208.numel) (x : S8x64x208.Idx)
    (a : Fin 8) (i : Fin 64) (j : Fin 208) (hx : x = ix3 a i j) :
    X ((Rect.unit (s := S3x8x64x208) off S1x8x64x208.size inb).emb (Shape.reshapeEquiv hn x)) = X (ix4 k a i j) := by
  subst ho hx
  have h : shapeCast S8x64x208 (fun y : S1x8x64x208.Idx => X (ix4 ⟨(k : ℕ) + y 0, by have h : (y 0 : ℕ) < 1 := (y 0).isLt; omega⟩ (y 1) (y 2) (y 3))) hn (ix3 a i j)
      = X (ix4 k a i j) := by
    pointwise []
    blk_ext []
  refine Eq.trans (congrArg X ?_) h
  generalize Shape.reshapeEquiv hn (ix3 a i j) = y
  idx_vars y
  blk_ext []

end Cert.AttIdeal.Point

end
-- ==== Proof.AttF.lean ====
/- The attention kernel ends with attention: every chunk and head of its whole result. -/
module

public import proofs.«01_k».proof.Proof.AttPoint
public import Idealize.ShloMosaic.Lib.Claim
public import Idealize.ShloMosaic.Lib.Pipeline.ValueKit

@[expose] public section

set_option maxRecDepth 16384

noncomputable section

namespace Cert.AttIdeal.Finals

open Cert.AttIdeal Cert.AttIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0] ∧ win0_1.index t = ![t.val / 8, t.val % 8, 0]
    ∧ win0_2.index t = ![t.val / 8, t.val % 8 - 1, 0] ∧ win0_3.index t = ![t.val / 8, t.val % 8, 0]
    ∧ win0_4.index t = ![0, 0] ∧ win0_5.index t = ![0, 0, 0, 0] ∧ win0_6.index t = ![t.val / 8, t.val % 8, 0] :=
  (by decide +kernel : ∀ t : Fin grid0.N, _)

open Cert.AttIdeal.Point

/-- The first valid key of each point's chunks, as the kernel computes it. -/
theorem valid : ∀ (t : Fin cfg0.N) (k : Fin 4), Scalar.muli (Scalar.subi 2#32 (Scalar.minsi (Scalar.addi (Scalar.muli 4#32
      (BitVec.ofNat 32 (grid0.coords t 1 : ℕ))) (BitVec.ofNat 32 k)) 2#32)) 64#32 = BitVec.ofNat 32 ((2 - min (t.val % 8 * 4 + (k : ℕ)) 2) * 64) :=
  (by decide +kernel : ∀ (t : Fin grid0.N) (k : Fin 4), _)

/-- The bias table each point's chunks read. -/
theorem table : ∀ (t : Fin cfg0.N) (k : Fin 4), k0_off1 (grid0.coords t) (BitVec.ofNat 32 k) = ![min (t.val % 8 * 4 + (k : ℕ)) 2, 0, 0, 0] :=
  (by decide +kernel : ∀ (t : Fin grid0.N) (k : Fin 4), _)

/-- The first window holds the sink scores. -/
theorem sink_at (c : Dev nD) (t : Fin cfg0.N) (a : Fin 8) : iblk m c 0 t (ix1 a) = m ((c.tc : Thread nD τ).loc main_arg0) (ix1 a) := by
  blk_point [iblk, V, idx t]

/-- A point's query window holds its four chunks' rows. -/
theorem q_at (c : Dev nD) (t : Fin cfg0.N) (r : Fin 256) (l : Fin 512) :
    iblk m c 1 t (ix3 0 r l) = m ((c.tc : Thread nD τ).loc main_arg1) (ix3 ⟨t.val / 8, by have h : t.val < 64 := t.isLt; omega⟩ ⟨t.val % 8 * 256 + r, by omega⟩ l) := by
  blk_point [iblk, V, idx t]

/-- A point's first key window holds the four chunks before its own (its own at the sequence's start). -/
theorem kvp_at (c : Dev nD) (t : Fin cfg0.N) (r : Fin 256) (l : Fin 256) :
    iblk m c 2 t (ix3 0 r l) = m ((c.tc : Thread nD τ).loc main_arg2) (ix3 ⟨t.val / 8, by have h : t.val < 64 := t.isLt; omega⟩ ⟨(t.val % 8 - 1) * 256 + r, by omega⟩ l) := by
  blk_point [iblk, V, idx t]

/-- A point's second key window holds its four chunks' rows. -/
theorem kvc_at (c : Dev nD) (t : Fin cfg0.N) (r : Fin 256) (l : Fin 256) :
    iblk m c 3 t (ix3 0 r l) = m ((c.tc : Thread nD τ).loc main_arg2) (ix3 ⟨t.val / 8, by have h : t.val < 64 := t.isLt; omega⟩ ⟨t.val % 8 * 256 + r, by omega⟩ l) := by
  blk_point [iblk, V, idx t]

/-- The remembered keys' window holds them all. -/
theorem meta_at (c : Dev nD) (t : Fin cfg0.N) (j : Fin 16) (l : Fin 256) : iblk m c 4 t (ix2 j l) = m ((c.tc : Thread nD τ).loc main_arg3) (ix2 j l) := by
  blk_point [iblk, V, idx t]

/-- The biases' window holds the three tables. -/
theorem bias_at (c : Dev nD) (t : Fin cfg0.N) (k : Fin 3) (a : Fin 8) (i : Fin 64) (j : Fin 208) :
    iblk m c 5 t (ix4 k a i j) = m ((c.tc : Thread nD τ).loc main_arg4) (ix4 k a i j) := by
  blk_point [iblk, V, idx t]

/-- An entry of the bias table a point's chunk reads. -/
theorem bias_ld (c : Dev nD) (t : Fin cfg0.N) (k : Fin 4) (w : BitVec 32) (hw : w = BitVec.ofNat 32 k)
    (inb : ∀ a, k0_off1 (grid0.coords t) w a + S1x8x64x208.size a ≤ S3x8x64x208.size a) (hn : S8x64x208.numel = S1x8x64x208.numel) (x : S8x64x208.Idx)
    (a : Fin 8) (i : Fin 64) (j : Fin 208) (hx : x = ix3 a i j) :
    iblk m c 5 t ((Rect.unit (s := S3x8x64x208) (k0_off1 (grid0.coords t) w) S1x8x64x208.size inb).emb (Shape.reshapeEquiv hn x))
      = m ((c.tc : Thread nD τ).loc main_arg4) (ix4 ⟨min (t.val % 8 * 4 + (k : ℕ)) 2, by omega⟩ a i j) := by
  subst hw
  exact (table_at (iblk m c 5 t) ⟨min (t.val % 8 * 4 + (k : ℕ)) 2, by omega⟩ _ (table t k) inb hn x a i j hx).trans (bias_at m c t _ a i j)

/-- A table's row, as a tile of its own. -/
theorem row_idx (off : Fin 3 → ℕ) (a : Fin 8) (ho : off = ![(a : ℕ), 0, 0]) (inb : ∀ b, off b + S1x64x208.size b ≤ S8x64x208.size b)
    (i : Fin 64) (j : Fin 208) : (Rect.unit (s := S8x64x208) off S1x64x208.size inb).emb (ix3 0 i j) = ix3 a i j := by
  subst ho
  blk_ext []

set_option maxHeartbeats 8000000 in
/-- The kernel ends with its whole result. -/
theorem final (c : Dev nD) : (dats m 0 c).arrAt 6 (cfgs 0).N
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  blk_simp
  rw [after0_6]
  unfold outsAt0
  frame_out
  canon_tiles x h
  all_goals open_payloads
  all_goals
    have t_lt : t.val < 64 := t.isLt
    obtain ⟨p, g, i, d, rfl⟩ := split_lane x
  case' piece0 =>
    refine (chunk_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ⟨t.val / 8, by omega⟩ ⟨t.val % 8 * 4 + 3, by omega⟩
      _ _ _ _ _ _ _ _ _ _ _ _ _ _ _ _ _ _ _ _ (valid t 3) ?b3 ?m3 ?q3 ?t3 ?s3 p g i d).trans ?e3
  case' piece1 =>
    refine (chunk_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ⟨t.val / 8, by omega⟩ ⟨t.val % 8 * 4 + 2, by omega⟩
      _ _ _ _ _ _ _ _ _ _ _ _ _ _ _ _ _ _ _ _ (valid t 2) ?b2 ?m2 ?q2 ?t2 ?s2 p g i d).trans ?e2
  case' piece2 =>
    refine (chunk_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ⟨t.val / 8, by omega⟩ ⟨t.val % 8 * 4 + 1, by omega⟩
      _ _ _ _ _ _ _ _ _ _ _ _ _ _ _ _ _ _ _ _ (valid t 1) ?b1 ?m1 ?q1 ?t1 ?s1 p g i d).trans ?e1
  case' piece3 =>
    refine (chunk_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ⟨t.val / 8, by omega⟩ ⟨t.val % 8 * 4 + 0, by omega⟩
      _ _ _ _ _ _ _ _ _ _ _ _ _ _ _ _ _ _ _ _ (valid t 0) ?b0 ?m0 ?q0 ?t0 ?s0 p g i d).trans ?e0
  case b3 | b2 | b1 | b0 =>
    intro j l
    pointwise []
    simp only [Memref.IsWhole.read_unread]
    split_ifs
    all_goals first
      | omega
      | refine (kvp_at m c t _ _).trans (congrArg (fun r => m ((c.tc : Thread nD τ).loc main_arg2) (ix3 _ r l)) (Fin.ext ?_))
      | refine (kvc_at m c t _ _).trans (congrArg (fun r => m ((c.tc : Thread nD τ).loc main_arg2) (ix3 _ r l)) (Fin.ext ?_))
    all_goals
      unfold from_
      dsimp only
      split_ifs <;> omega
  case m3 | m2 | m1 | m0 =>
    intro j l
    simp only [Memref.IsWhole.read_unread]
    blk_point [iblk, V, idx t]
  case q3 | q2 | q1 | q0 =>
    intro i l
    pointwise []
    simp only [Memref.IsWhole.read_unread]
    refine (q_at m c t _ _).trans (congrArg (fun r => m ((c.tc : Thread nD τ).loc main_arg1) (ix3 _ r l)) (Fin.ext ?_))
    dsimp only
    omega
  case t3 =>
    intro a i j
    fin_cases a
    all_goals exact ((congrFun ((hs0_5 t).read_unread (iblk m c 5 t)) _).trans (bias_ld m c t 3 _ rfl _ _ _ _ i j (row_idx _ _ (by rfl) _ i j)))
  case t2 =>
    intro a i j
    fin_cases a
    all_goals exact ((congrFun ((hs0_5 t).read_unread (iblk m c 5 t)) _).trans (bias_ld m c t 2 _ rfl _ _ _ _ i j (row_idx _ _ (by rfl) _ i j)))
  case t1 =>
    intro a i j
    fin_cases a
    all_goals exact ((congrFun ((hs0_5 t).read_unread (iblk m c 5 t)) _).trans (bias_ld m c t 1 _ rfl _ _ _ _ i j (row_idx _ _ (by rfl) _ i j)))
  case t0 =>
    intro a i j
    fin_cases a
    all_goals exact ((congrFun ((hs0_5 t).read_unread (iblk m c 5 t)) _).trans (bias_ld m c t 0 _ rfl _ _ _ _ i j (row_idx _ _ (by rfl) _ i j)))
  case s3 | s2 | s1 | s0 =>
    intro a
    fin_cases a
    all_goals blk_point [iblk, V, idx t]
  case e3 | e2 | e1 | e0 =>
    refine (whole_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ _ _ _ _ _).symm.trans (congrArg (whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ?_)
    simp only [ix3_0, ix3_1, ix3_2] at h0 h1 h2
    blk_ext [idx t] <;> omega
end Cert.AttIdeal.Finals

end
-- ==== Proof.AttMath.lean ====
/- Attention over masked keys: what it does not depend on, when every score and sink is a real number. -/
module

public import proofs.«01_k».proof.Proof.AttPoint

@[expose] public section

noncomputable section

namespace Cert.AttIdeal.Math

open Cert.AttIdeal.Point Idealize.ShloMosaic

/-- A real number, as an extended one. -/
def Real' (x : EReal) : Prop := x ≠ ⊥ ∧ x ≠ ⊤

/-- The product of two real numbers is one. -/
theorem Real'.mul {x y : EReal} (hx : Real' x) (hy : Real' y) : Real' (x * y) := by
  lift x to ℝ using ⟨hx.2, hx.1⟩
  lift y to ℝ using ⟨hy.2, hy.1⟩
  rw [← EReal.coe_mul]
  exact ⟨EReal.coe_ne_bot _, EReal.coe_ne_top _⟩

/-- The sum of two real numbers is one. -/
theorem Real'.add {x y : EReal} (hx : Real' x) (hy : Real' y) : Real' (x + y) := by
  lift x to ℝ using ⟨hx.2, hx.1⟩
  lift y to ℝ using ⟨hy.2, hy.1⟩
  rw [← EReal.coe_add]
  exact ⟨EReal.coe_ne_bot _, EReal.coe_ne_top _⟩

/-- A finite sum of real numbers is one. -/
theorem Real'.sum {ι : Type} (s : Finset ι) (f : ι → EReal) (hf : ∀ i, Real' (f i)) : Real' (∑ i ∈ s, f i) := by
  classical
  induction s using Finset.induction_on with
  | empty => exact ⟨by simp, by simp⟩
  | insert a s ha ih => rw [Finset.sum_insert ha]; exact (hf a).add ih

/-- Negative infinity's word is negative infinity. -/
theorem ofBits_bot : Ideal.ofBits .f32 0xFF800000#32 = ⊥ := by
  show Ideal.ieee 8 23 0xFF800000#32 = ⊥
  rw [Ideal.ieee]
  norm_num
  decide

/-- The largest of scores below infinity is below infinity. -/
theorem fold_lt_top {ι : Type} (s : Finset ι) (f : ι → EReal) (hf : ∀ i, f i < ⊤) :
    s.fold max (Ideal.ofBits .f32 0xFF800000#32) f < ⊤ := by
  classical
  rw [ofBits_bot]
  induction s using Finset.induction_on with
  | empty => simp
  | insert a s ha ih => rw [Finset.fold_insert ha]; exact max_lt (hf a) ih

/-- The exponential is not negative. -/
theorem exp_nonneg (x : EReal) : 0 ≤ Ideal.exp x := by
  induction x with
  | bot => simp
  | top => simp
  | coe r => rw [Ideal.exp_coe]; exact_mod_cast (Real.exp_pos r).le

/-- The exponential of a real number is positive. -/
theorem exp_pos {x : EReal} (hx : Real' x) : 0 < Ideal.exp x := by
  lift x to ℝ using ⟨hx.2, hx.1⟩
  rw [Ideal.exp_coe]
  exact_mod_cast Real.exp_pos x

/-- A masked key's share is zero, when the sink score is a real number and no score is infinite. -/
theorem share_masked (L : Fin 208 → EReal) (s : EReal) (hs : Real' s) (hL : ∀ k, L k < ⊤) (j : Fin 208) (hj : L j = ⊥) : share L s j = 0 := by
  have hM : max (Finset.univ.fold max (Ideal.ofBits .f32 0xFF800000#32) L) s < ⊤ := max_lt (fold_lt_top _ _ hL) (lt_top_iff_ne_top.2 hs.2)
  have hM' : ⊥ < max (Finset.univ.fold max (Ideal.ofBits .f32 0xFF800000#32) L) s := lt_max_of_lt_right (bot_lt_iff_ne_bot.2 hs.1)
  unfold share
  generalize max (Finset.univ.fold max (Ideal.ofBits .f32 0xFF800000#32) L) s = M at hM hM'
  lift M to ℝ using ⟨hM.ne, hM'.ne'⟩
  lift s to ℝ using ⟨hs.2, hs.1⟩
  have hD : 0 < ∑ k, Ideal.exp (L k - (M : EReal)) + Ideal.exp ((s : EReal) - (M : EReal)) := by
    refine lt_of_lt_of_le (exp_pos (x := (s : EReal) - (M : EReal)) ?_) (le_add_of_nonneg_left (Finset.sum_nonneg fun k _ => exp_nonneg _))
    rw [← EReal.coe_sub]
    exact ⟨EReal.coe_ne_bot _, EReal.coe_ne_top _⟩
  rw [hj]
  have h0 : Ideal.exp (⊥ - (M : EReal)) = 0 := by
    rw [EReal.bot_sub, Ideal.exp_bot]
  rw [h0, Ideal.div, if_neg hD.ne', zero_mul]

/-- Attention does not depend on the values of masked keys. -/
theorem attend_masked (L : Fin 208 → EReal) (s : EReal) (hs : Real' s) (hL : ∀ k, L k < ⊤) (v w : Fin 208 → EReal)
    (h : ∀ j, L j ≠ ⊥ → v j = w j) : attend L s v = attend L s w := by
  unfold attend
  refine Finset.sum_congr rfl fun j _ => ?_
  by_cases hj : L j = ⊥
  · rw [share_masked L s hs hL j hj, zero_mul, zero_mul]
  · rw [h j hj]

/-- Attention does not depend on the order of the keys. -/
theorem attend_reorder (σ : Fin 208 ≃ Fin 208) (L : Fin 208 → EReal) (s : EReal) (v : Fin 208 → EReal) :
    attend (fun j => L (σ j)) s (fun j => v (σ j)) = attend L s v := by
  have hf : Finset.univ.fold max (Ideal.ofBits .f32 0xFF800000#32) (fun j => L (σ j)) = Finset.univ.fold max (Ideal.ofBits .f32 0xFF800000#32) L := by
    conv_rhs => rw [← Finset.map_univ_equiv σ, Finset.fold_map]
    rfl
  unfold attend share
  rw [hf]
  generalize max (Finset.univ.fold max (Ideal.ofBits .f32 0xFF800000#32) L) s = M
  rw [Equiv.sum_comp σ (fun k => Ideal.exp (L k - M))]
  exact Equiv.sum_comp σ fun j => Ideal.div (Ideal.exp (L j - M)) (∑ k, Ideal.exp (L k - M) + Ideal.exp (s - M)) * v j

end Cert.AttIdeal.Math

end
-- ==== Proof.AttRef.lean ====
/- The attention reference: its terms, and what they are entry by entry. -/
module

public import proofs.«01_k».proof.Proof.Gen.AttRefIdeal.Run
public import proofs.«01_k».proof.Proof.AttMath
public import Idealize.ShloMosaic.Lib.Pointwise
public import Idealize.ShloMosaic.Lib.Claim

@[expose] public section

set_option maxRecDepth 16384

noncomputable section

namespace Cert.AttRefIdeal.Term

open Cert.AttRefIdeal Cert.AttRefIdeal.Gen Cert.AttRefIdeal.Value Idealize.ShloMosaic Idealize.ShloMosaic.TcCoe Idealize.SL.Sem
open Cert.AttIdeal.Point (head lane attend share)

/-- The chunks of a sequence's keys (or values), two of zeros before them. -/
def frames (fr : FVec Ideal S8x2048x128 .f32) : FVec Ideal S8x34x64x2x64 .f32 :=
  shapeCast _ (pad S8x2176x2x64 ![0, 128, 0, 0] ![0, 0, 0, 0] ![0, 0, 0, 0] (shapeCast _ fr shapeCasts_S8x2048x128_S8x2048x2x64) (sitofp .f32 (constantI S_ 32 0#32) : FVec Ideal S_ .f32) pads_S8x2048x2x64_S8x2176x2x64_000_12800_000_000 h_S_) shapeCasts_S8x2176x2x64_S8x34x64x2x64

/-- Every chunk's keys (or values): the remembered ones, then the band's, zero before the sequence's start. -/
def rows (mt : FVec Ideal S16x128 .f32) (fr : FVec Ideal S8x2048x128 .f32) : FVec Ideal S256x208x2x64 .f32 :=
  shapeCast _ ((concatenate S8x32x208x2x64 2 [⟨S8x32x16x2x64, ((broadcastInDim S8x32x16x2x64 ![0, 1, 2, 3, 4] bcast_S1x1x16x2x64_S8x32x16x2x64_0_1_2_3_4 (shapeCast _ mt shapeCasts_S16x128_S1x1x16x2x64)) : (⟨S8x32x16x2x64, .f32⟩ : BufTy).Contents (Elt Ideal))⟩, ⟨S8x32x64x2x64, ((extractStridedSlice S8x32x64x2x64 ![0, 0, 0, 0, 0] (frames fr) slices_S8x34x64x2x64_S8x32x64x2x64_0_0_0_0_0) : (⟨S8x32x64x2x64, .f32⟩ : BufTy).Contents (Elt Ideal))⟩, ⟨S8x32x64x2x64, ((extractStridedSlice S8x32x64x2x64 ![0, 1, 0, 0, 0] (frames fr) slices_S8x34x64x2x64_S8x32x64x2x64_0_1_0_0_0) : (⟨S8x32x64x2x64, .f32⟩ : BufTy).Contents (Elt Ideal))⟩, ⟨S8x32x64x2x64, ((extractStridedSlice S8x32x64x2x64 ![0, 2, 0, 0, 0] (frames fr) slices_S8x34x64x2x64_S8x32x64x2x64_0_2_0_0_0) : (⟨S8x32x64x2x64, .f32⟩ : BufTy).Contents (Elt Ideal))⟩] concatenates_S8x32x16x2x64_S8x32x64x2x64_S8x32x64x2x64_S8x32x64x2x64_S8x32x208x2x64_d2 : (⟨S8x32x208x2x64, .f32⟩ : BufTy).Contents (Elt Ideal))) shapeCasts_S8x32x208x2x64_S256x208x2x64

/-- Every chunk's number in its sequence. -/
def modc : IVec S256 32 :=
  select (andi (cmpi .ne (cmpi .slt (Host.remsi (iotaInDim S256 32 0) (broadcastInDim S256 ![] bcast_S_S256 (select (cmpi .eq (id (constantI S_ 32 32#32)) (constantI S_ 32 0#32)) (constantI S_ 32 1#32) (id (constantI S_ 32 32#32))))) (broadcastInDim S256 ![] bcast_S_S256 (constantI S_ 32 0#32))) (broadcastInDim S256 ![] bcast_S_S256 (cmpi .slt (select (cmpi .eq (id (constantI S_ 32 32#32)) (constantI S_ 32 0#32)) (constantI S_ 32 1#32) (id (constantI S_ 32 32#32))) (constantI S_ 32 0#32)))) (cmpi .ne (Host.remsi (iotaInDim S256 32 0) (broadcastInDim S256 ![] bcast_S_S256 (select (cmpi .eq (id (constantI S_ 32 32#32)) (constantI S_ 32 0#32)) (constantI S_ 32 1#32) (id (constantI S_ 32 32#32))))) (broadcastInDim S256 ![] bcast_S_S256 (constantI S_ 32 0#32)))) (addi (Host.remsi (iotaInDim S256 32 0) (broadcastInDim S256 ![] bcast_S_S256 (select (cmpi .eq (id (constantI S_ 32 32#32)) (constantI S_ 32 0#32)) (constantI S_ 32 1#32) (id (constantI S_ 32 32#32))))) (broadcastInDim S256 ![] bcast_S_S256 (select (cmpi .eq (id (constantI S_ 32 32#32)) (constantI S_ 32 0#32)) (constantI S_ 32 1#32) (id (constantI S_ 32 32#32))))) (Host.remsi (iotaInDim S256 32 0) (broadcastInDim S256 ![] bcast_S_S256 (select (cmpi .eq (id (constantI S_ 32 32#32)) (constantI S_ 32 0#32)) (constantI S_ 32 1#32) (id (constantI S_ 32 32#32)))))

/-- The keys each chunk sees. -/
def mask : IVec S256x208 1 :=
  ori (broadcastInDim S256x208 ![0, 1] bcast_S1x208_S256x208_0_1 (cmpi .slt (broadcastInDim S1x208 ![1] bcast_S208_S1x208_1 (subi (iotaInDim S208 32 0) (broadcastInDim S208 ![] bcast_S_S208 (constantI S_ 32 16#32)))) (broadcastInDim S1x208 ![] bcast_S_S1x208 (constantI S_ 32 0#32)))) (cmpi .sge (addi (broadcastInDim S256x208 ![0, 1] bcast_S256x1_S256x208_0_1 (muli (subi (broadcastInDim S256x1 ![0] bcast_S256_S256x1_0 modc) (broadcastInDim S256x1 ![] bcast_S_S256x1 (constantI S_ 32 2#32))) (broadcastInDim S256x1 ![] bcast_S_S256x1 (constantI S_ 32 64#32)))) (broadcastInDim S256x208 ![0, 1] bcast_S1x208_S256x208_0_1 (broadcastInDim S1x208 ![1] bcast_S208_S1x208_1 (subi (iotaInDim S208 32 0) (broadcastInDim S208 ![] bcast_S_S208 (constantI S_ 32 16#32)))))) (broadcastInDim S256x208 ![] bcast_S_S256x208 (constantI S_ 32 0#32)))

/-- Every chunk's biases. -/
def bias (bs : FVec Ideal S3x8x64x208 .f32) : FVec Ideal S256x2x4x64x208 .f32 :=
  shapeCast _ (broadcastInDim S8x32x8x64x208 ![0, 1, 2, 3, 4] bcast_S1x32x8x64x208_S8x32x8x64x208_0_1_2_3_4 (shapeCast _ (concatenate S32x8x64x208 3 [⟨S32x8x64x16, (extractStridedSlice S32x8x64x16 ![0, 0, 0, 192] (concatenate S32x8x64x208 0 [⟨S2x8x64x208, (extractStridedSlice S2x8x64x208 ![0, 0, 0, 0] bs slices_S3x8x64x208_S2x8x64x208_0_0_0_0)⟩, ⟨S30x8x64x208, (broadcastInDim S30x8x64x208 ![0, 1, 2, 3] bcast_S1x8x64x208_S30x8x64x208_0_1_2_3 (extractStridedSlice S1x8x64x208 ![2, 0, 0, 0] bs slices_S3x8x64x208_S1x8x64x208_2_0_0_0))⟩] concatenates_S2x8x64x208_S30x8x64x208_S32x8x64x208_d0) slices_S32x8x64x208_S32x8x64x16_0_0_0_192)⟩, ⟨S32x8x64x192, (extractStridedSlice S32x8x64x192 ![0, 0, 0, 0] (concatenate S32x8x64x208 0 [⟨S2x8x64x208, (extractStridedSlice S2x8x64x208 ![0, 0, 0, 0] bs slices_S3x8x64x208_S2x8x64x208_0_0_0_0)⟩, ⟨S30x8x64x208, (broadcastInDim S30x8x64x208 ![0, 1, 2, 3] bcast_S1x8x64x208_S30x8x64x208_0_1_2_3 (extractStridedSlice S1x8x64x208 ![2, 0, 0, 0] bs slices_S3x8x64x208_S1x8x64x208_2_0_0_0))⟩] concatenates_S2x8x64x208_S30x8x64x208_S32x8x64x208_d0) slices_S32x8x64x208_S32x8x64x192_0_0_0_0)⟩] concatenates_S32x8x64x16_S32x8x64x192_S32x8x64x208_d3) shapeCasts_S32x8x64x208_S1x32x8x64x208)) shapeCasts_S8x32x8x64x208_S256x2x4x64x208

/-- The sink scores, for every query. -/
def sinks (sk : FVec Ideal S8 .f32) : FVec Ideal S256x2x4x64x1 .f32 :=
  broadcastInDim S256x2x4x64x1 ![0, 1, 2, 3, 4] bcast_S1x2x4x1x1_S256x2x4x64x1_0_1_2_3_4 (broadcastInDim S1x2x4x1x1 ![1, 2] bcast_S2x4_S1x2x4x1x1_1_2 (shapeCast _ sk shapeCasts_S8_S2x4))

/-- Every query's scores. -/
def scores (KK : FVec Ideal S256x208x2x64 .f32) (q : FVec Ideal S8x2048x512 .f32) (BIAS : FVec Ideal S256x2x4x64x208 .f32) : FVec Ideal S256x2x4x64x208 .f32 :=
  select (broadcastInDim S256x2x4x64x208 ![0, 1, 2, 3, 4] bcast_S256x1x1x1x208_S256x2x4x64x208_0_1_2_3_4 (broadcastInDim S256x1x1x1x208 ![0, 4] bcast_S256x208_S256x1x1x1x208_0_4 mask)) (addf (mulf (transpose S256x2x4x64x208 [0, 1, 4, 3, 2] (Host.dotGeneral dot_S256x208x2x64_S256x64x2x4x64_S256x2x208x64x4_3_4_1_13_02_02 none KK (shapeCast _ q shapeCasts_S8x2048x512_S256x64x2x4x64)) transposes_S256x2x208x64x4_S256x2x4x64x208_0_1_4_3_2) (broadcastInDim S256x2x4x64x208 ![] bcast_S_S256x2x4x64x208 (constant S_ .f32 0x3E000000#32))) BIAS) (broadcastInDim S256x2x4x64x208 ![] bcast_S_S256x2x4x64x208 (id (constant S_ .f32 0xFF800000#32)))

/-- Every query's largest score. -/
def peak (LL : FVec Ideal S256x2x4x64x208 .f32) : FVec Ideal S256x2x4x64 .f32 :=
  Host.reduce FloatOps.maximumf LL (constant S_ .f32 0xFF800000#32) reducesTo_S256x2x4x64x208_S256x2x4x64_d4 h_S_

/-- Every query's largest score, its sink's among them. -/
def top (LL : FVec Ideal S256x2x4x64x208 .f32) (sk : FVec Ideal S8 .f32) : FVec Ideal S256x2x4x64x1 .f32 :=
  maximumf (broadcastInDim S256x2x4x64x1 ![0, 1, 2, 3] bcast_S256x2x4x64_S256x2x4x64x1_0_1_2_3 (peak LL)) (sinks sk)

/-- Every query's weights. -/
def weights (LL : FVec Ideal S256x2x4x64x208 .f32) (MM : FVec Ideal S256x2x4x64x1 .f32) (sk : FVec Ideal S8 .f32) : FVec Ideal S256x2x4x64x208 .f32 :=
  Host.divf (Host.exp (subf LL (broadcastInDim S256x2x4x64x208 ![0, 1, 2, 3, 4] bcast_S256x2x4x64x1_S256x2x4x64x208_0_1_2_3_4 MM))) (broadcastInDim S256x2x4x64x208 ![0, 1, 2, 3, 4] bcast_S256x2x4x64x1_S256x2x4x64x208_0_1_2_3_4 (addf (broadcastInDim S256x2x4x64x1 ![0, 1, 2, 3] bcast_S256x2x4x64_S256x2x4x64x1_0_1_2_3 (Host.reduceAdd (Host.exp (subf LL (broadcastInDim S256x2x4x64x208 ![0, 1, 2, 3, 4] bcast_S256x2x4x64x1_S256x2x4x64x208_0_1_2_3_4 MM))) (constant S_ .f32 0x00000000#32) reducesTo_S256x2x4x64x208_S256x2x4x64_d4 h_S_)) (Host.exp (subf (sinks sk) MM))))

/-- Every query's weighted values. -/
def out (VV : FVec Ideal S256x208x2x64 .f32) (WW : FVec Ideal S256x2x4x64x208 .f32) : FVec Ideal S8x2048x512 .f32 :=
  shapeCast _ (transpose S256x64x2x4x64 [0, 4, 1, 3, 2] (Host.dotGeneral dot_S256x208x2x64_S256x2x4x64x208_S256x2x64x4x64_1_4_3_23_02_01 none VV WW) transposes_S256x2x64x4x64_S256x64x2x4x64_0_4_1_3_2) shapeCasts_S256x64x2x4x64_S8x2048x512

/-- The reference's result, of its arguments. -/
def whole (sk : FVec Ideal S8 .f32) (q : FVec Ideal S8x2048x512 .f32) (kv : FVec Ideal S8x2048x256 .f32) (mt : FVec Ideal S16x256 .f32)
    (bs : FVec Ideal S3x8x64x208 .f32) : FVec Ideal S8x2048x512 .f32 :=
  out (rows (extractStridedSlice S16x128 ![0, 128] mt slices_S16x256_S16x128_0_128) (extractStridedSlice S8x2048x128 ![0, 0, 128] kv slices_S8x2048x256_S8x2048x128_0_0_128))
    (weights (scores (rows (extractStridedSlice S16x128 ![0, 0] mt slices_S16x256_S16x128_0_0) (extractStridedSlice S8x2048x128 ![0, 0, 0] kv slices_S8x2048x256_S8x2048x128_0_0_0)) q (bias bs))
      (top (scores (rows (extractStridedSlice S16x128 ![0, 0] mt slices_S16x256_S16x128_0_0) (extractStridedSlice S8x2048x128 ![0, 0, 0] kv slices_S8x2048x256_S8x2048x128_0_0_0)) q (bias bs)) sk) sk)

/-- Key `j` of the reference's order (remembered ones first), in the kernel's (the band's first). -/
def turn (j : Fin 208) : Fin 208 := if (j : ℕ) < 16 then ⟨192 + j % 16, by omega⟩ else ⟨j - 16, by omega⟩

/-- Chunk `c` of batch `b`, among all. -/
abbrev nth (b : Fin 8) (c : Fin 32) : Fin 256 := ⟨(b : ℕ) * 32 + c, by omega⟩

set_option maxHeartbeats 4000000 in
/-- The reference ends with its result. -/
theorem res_eq (m : (ℓ : Loc nD τ sig) → Buf (Elt Ideal) ℓ) (c : Dev nD) :
    res_main_v82 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- An entry of a chunk's keys or values. -/
theorem rows_at (mt : FVec Ideal S16x128 .f32) (fr : FVec Ideal S8x2048x128 .f32) (b : Fin 8) (c : Fin 32) (j : Fin 208) (p : Fin 2) (e : Fin 64) :
    (h : (j : ℕ) < 16) → rows mt fr (ix4 (nth b c) j p e) = mt (ix2 ⟨j, h⟩ ⟨(p : ℕ) * 64 + e, by omega⟩) := fun h => by
  pointwise [rows, frames]
  split_ifs
  all_goals first | omega | blk_ext [] | skip
  all_goals try omega

/-- An entry of a chunk's keys or values within the sequence. -/
theorem rows_in (mt : FVec Ideal S16x128 .f32) (fr : FVec Ideal S8x2048x128 .f32) (b : Fin 8) (c : Fin 32) (j : Fin 208) (p : Fin 2) (e : Fin 64)
    (h : 16 ≤ (j : ℕ)) (h' : 128 ≤ (c : ℕ) * 64 + (j - 16)) :
    rows mt fr (ix4 (nth b c) j p e) = fr (ix3 b ⟨(c : ℕ) * 64 + (j - 16) - 128, by omega⟩ ⟨(p : ℕ) * 64 + e, by omega⟩) := by
  pointwise [rows, frames]
  split_ifs
  all_goals first | omega | blk_ext [] | skip
  all_goals try omega

/-- A chunk's number in its sequence. -/
theorem modc_at : ∀ N : Fin 256, modc (ix1 N) = BitVec.ofNat 32 ((N : ℕ) % 32) := fun N => by
  pointwise [modc]
  revert N
  decide +kernel

/-- The keys a chunk sees. -/
theorem mask_at (b : Fin 8) (c : Fin 32) (j : Fin 208) : mask (ix2 (nth b c) j) = if (turn j : ℕ) < (2 - min (c : ℕ) 2) * 64 then 0#1 else 1#1 := by
  have hc : ((b : ℕ) * 32 + c) % 32 = c := by omega
  pointwise [mask]
  simp only [modc_at, hc]
  clear hc
  revert c j
  decide +kernel

/-- An entry of a chunk's biases. -/
theorem bias_at (bs : FVec Ideal S3x8x64x208 .f32) (b : Fin 8) (c : Fin 32) (p : Fin 2) (g : Fin 4) (i : Fin 64) (j : Fin 208) :
    bias bs (ix5 (nth b c) p g i j) = bs (ix4 ⟨min (c : ℕ) 2, by omega⟩ (head p g) i (turn j)) := by
  unfold turn
  pointwise [bias]
  split_ifs
  all_goals first | omega | blk_ext [] | skip
  all_goals try omega

/-- An entry of the scores. -/
theorem scores_at (KK : FVec Ideal S256x208x2x64 .f32) (q : FVec Ideal S8x2048x512 .f32) (BB : FVec Ideal S256x2x4x64x208 .f32)
    (b : Fin 8) (c : Fin 32) (p : Fin 2) (g : Fin 4) (i : Fin 64) (j : Fin 208) (hm : mask (ix2 (nth b c) j) = if (turn j : ℕ) < (2 - min (c : ℕ) 2) * 64 then 0#1 else 1#1) :
    scores KK q BB (ix5 (nth b c) p g i j) = if (turn j : ℕ) < (2 - min (c : ℕ) 2) * 64 then ⊥ else
      (∑ e : Fin 64, q (ix3 b ⟨(c : ℕ) * 64 + i, by omega⟩ (lane (head p g) e)) * KK (ix4 (nth b c) j p e)) * Ideal.ofBits .f32 0x3E000000#32
        + BB (ix5 (nth b c) p g i j) := by
  have s0 : ∀ a b : Ideal .f32, Scalar.select 0#1 a b = b := fun _ _ => rfl
  have s1 : ∀ a b : Ideal .f32, Scalar.select 1#1 a b = a := fun _ _ => rfl
  pointwise [scores]
  rw [hm]
  split_ifs
  · exact (s0 _ _).trans Cert.AttIdeal.Math.ofBits_bot
  · refine (s1 _ _).trans ?_
    refine congrArg (· + _) (congrArg (· * _) (Finset.sum_congr rfl fun e _ => (mul_comm _ _).trans (congrArg (· * _) ?_)))
    blk_ext [] <;> omega

/-- An entry of the sink scores. -/
theorem sinks_at (sk : FVec Ideal S8 .f32) (N : Fin 256) (p : Fin 2) (g : Fin 4) (i : Fin 64) (z : Fin 1) :
    sinks sk (ix5 N p g i z) = sk (ix1 (head p g)) := by
  pointwise [sinks]
  blk_ext []

/-- An entry of the largest scores, the sinks aside. -/
theorem peak_at (LL : FVec Ideal S256x2x4x64x208 .f32) (N : Fin 256) (p : Fin 2) (g : Fin 4) (i : Fin 64) :
    peak LL (ix4 N p g i) = Finset.univ.fold max (Ideal.ofBits .f32 0xFF800000#32) fun j : Fin 208 => LL (ix5 N p g i j) := by
  unfold peak
  rw [Host.reduce_eq_fold]
  exact Shape.ReducesTo.fold_fiber_r5_a4 _ _ _ _ _

/-- A larger of two, entry by entry. -/
theorem larger_at (A B : FVec Ideal S256x2x4x64x1 .f32) (y : S256x2x4x64x1.Idx) : maximumf A B y = max (A y) (B y) := by
  simp only [maximumf_apply, Ideal.maximumf_eq_max]

/-- An entry with a last axis of one. -/
theorem keep_at (P : FVec Ideal S256x2x4x64 .f32) (N : Fin 256) (p : Fin 2) (g : Fin 4) (i : Fin 64) (z : Fin 1) :
    broadcastInDim S256x2x4x64x1 ![0, 1, 2, 3] bcast_S256x2x4x64_S256x2x4x64x1_0_1_2_3 P (ix5 N p g i z) = P (ix4 N p g i) := by
  pointwise []

/-- An entry of a larger of two, the first with a last axis of one. -/
theorem larger_keep_at (P : FVec Ideal S256x2x4x64 .f32) (S : FVec Ideal S256x2x4x64x1 .f32) (N : Fin 256) (p : Fin 2) (g : Fin 4) (i : Fin 64) (z : Fin 1) :
    maximumf (broadcastInDim S256x2x4x64x1 ![0, 1, 2, 3] bcast_S256x2x4x64_S256x2x4x64x1_0_1_2_3 P) S (ix5 N p g i z)
      = max (P (ix4 N p g i)) (S (ix5 N p g i z)) := by
  rw [larger_at, keep_at]

/-- An entry of the largest scores. -/
theorem top_at (LL : FVec Ideal S256x2x4x64x208 .f32) (sk : FVec Ideal S8 .f32) (N : Fin 256) (p : Fin 2) (g : Fin 4) (i : Fin 64) (z : Fin 1) :
    top LL sk (ix5 N p g i z) = max (Finset.univ.fold max (Ideal.ofBits .f32 0xFF800000#32) fun j => LL (ix5 N p g i j)) (sk (ix1 (head p g))) := by
  refine Eq.trans (b := max (peak LL (ix4 N p g i)) (sinks sk (ix5 N p g i z))) ?_ (congrArg₂ max (peak_at LL N p g i) (sinks_at sk N p g i z))
  unfold top
  exact larger_keep_at (peak LL) (sinks sk) N p g i z

/-- A weight is its key's share. -/
theorem weights_at (LL : FVec Ideal S256x2x4x64x208 .f32) (sk : FVec Ideal S8 .f32) (N : Fin 256) (p : Fin 2) (g : Fin 4) (i : Fin 64) (j : Fin 208) :
    weights LL (top LL sk) sk (ix5 N p g i j) = share (fun k => LL (ix5 N p g i k)) (sk (ix1 (head p g))) j := by
  unfold share
  pointwise [weights, top_at, sinks_at]

/-- Every query's result is attention over its scores. -/
theorem out_at (VV : FVec Ideal S256x208x2x64 .f32) (LL : FVec Ideal S256x2x4x64x208 .f32) (sk : FVec Ideal S8 .f32)
    (b : Fin 8) (c : Fin 32) (p : Fin 2) (g : Fin 4) (i d : Fin 64) :
    out VV (weights LL (top LL sk) sk) (ix3 b ⟨(c : ℕ) * 64 + i, by omega⟩ (lane (head p g) d))
      = attend (fun k => LL (ix5 (nth b c) p g i k)) (sk (ix1 (head p g))) (fun j => VV (ix4 (nth b c) j p d)) := by
  unfold attend
  simp only [← weights_at]
  generalize weights LL (top LL sk) sk = X
  pointwise [out]
  refine Finset.sum_congr rfl fun j _ => (Ideal.mul_congr ?_ ?_).trans (mul_comm _ _)
  all_goals blk_ext [] <;> omega

end Cert.AttRefIdeal.Term

end
-- ==== Proof.AttEq.lean ====
/- The attention kernel's result and its reference's are one array, of finite sinks, queries and keys and biases below infinity. -/
module

public import proofs.«01_k».proof.Proof.AttRef

@[expose] public section

set_option maxRecDepth 16384

noncomputable section

namespace Cert.AttRefIdeal.Same

open Cert.AttRefIdeal Cert.AttRefIdeal.Gen Cert.AttRefIdeal.Term Cert.AttIdeal.Math Idealize.ShloMosaic
open Cert.AttIdeal.Point (head lane attend share sees from_ result)

/-- The two orders of the keys are a permutation of each other. -/
def turnE : Fin 208 ≃ Fin 208 where
  toFun := turn
  invFun j := if h : (j : ℕ) < 192 then ⟨j + 16, by omega⟩ else ⟨j - 192, by omega⟩
  left_inv := by decide
  right_inv := by decide

/-- The score's scale is a real number. -/
theorem scale_real : Real' (Ideal.ofBits .f32 0x3E000000#32) := by
  rw [show Ideal.ofBits .f32 0x3E000000#32 = Ideal.ieee 8 23 0x3E000000#32 from rfl, Ideal.ieee]
  rw [if_neg (by decide), if_neg (by decide)]
  exact ⟨EReal.coe_ne_bot _, EReal.coe_ne_top _⟩

/-- A key (or value) of the reference's that its chunk sees is the kernel's. -/
theorem rows_sees (M : FVec Ideal S16x128 .f32) (Fr : FVec Ideal S8x2048x128 .f32) (kv : FVec Ideal S8x2048x256 .f32) (mt : FVec Ideal S16x256 .f32)
    (f : Fin 128 → Fin 256) (hM : ∀ j l, M (ix2 j l) = mt (ix2 j (f l))) (hF : ∀ b r l, Fr (ix3 b r l) = kv (ix3 b r (f l)))
    (b : Fin 8) (c : Fin 32) (j : Fin 208) (p : Fin 2) (e : Fin 64) (hv : ¬ (turn j : ℕ) < (2 - min (c : ℕ) 2) * 64) :
    rows M Fr (ix4 (nth b c) j p e) = sees kv mt b c (turn j) (f ⟨(p : ℕ) * 64 + e, by omega⟩) := by
  unfold sees
  by_cases hj : (j : ℕ) < 16
  · have ht : turn j = ⟨192 + (j : ℕ), by omega⟩ := by unfold turn; rw [if_pos hj]; exact Fin.ext (by simp; omega)
    rw [rows_at M Fr b c j p e hj, hM, ht, dif_neg (by simp)]
    exact congrArg mt (congrArg (ix2 · _) (Fin.ext (by simp)))
  · have ht : turn j = ⟨(j : ℕ) - 16, by omega⟩ := by unfold turn; rw [if_neg hj]
    have hk : (turn j : ℕ) = j - 16 := by rw [ht]
    rw [hk] at hv
    rw [rows_in M Fr b c j p e (by omega) (by omega), hF, dif_pos (by omega)]
    refine congrArg kv (congrArg (ix3 b · _) (Fin.ext ?_))
    unfold from_
    simp only [hk]
    split_ifs <;> omega

/-- The kernel's result and the reference's are one array, when the sinks, the queries and the keys are real numbers and
the biases are below infinity. -/
theorem whole_eq (sk : FVec Ideal S8 .f32) (q : FVec Ideal S8x2048x512 .f32) (kv : FVec Ideal S8x2048x256 .f32) (mt : FVec Ideal S16x256 .f32)
    (bs : FVec Ideal S3x8x64x208 .f32) (hsk : ∀ i, Real' (sk i)) (hq : ∀ i, Real' (q i))
    (hkv : ∀ i, Real' (extractStridedSlice S8x2048x128 ![0, 0, 0] kv slices_S8x2048x256_S8x2048x128_0_0_0 i))
    (hmt : ∀ i, Real' (extractStridedSlice S16x128 ![0, 0] mt slices_S16x256_S16x128_0_0 i)) (hbs : ∀ i, bs i < ⊤) : Term.whole sk q kv mt bs = Cert.AttIdeal.Point.whole sk q kv mt bs := by
  funext y
  obtain ⟨b, c, i, p, g, d, rfl⟩ : ∃ (b : Fin 8) (c : Fin 32) (i : Fin 64) (p : Fin 2) (g : Fin 4) (d : Fin 64),
      y = ix3 b ⟨(c : ℕ) * 64 + i, by omega⟩ (lane (head p g) d) := by
    idx_vars y
    refine ⟨y0, ⟨(y1 : ℕ) / 64, by omega⟩, ⟨(y1 : ℕ) % 64, by omega⟩, ⟨(y2 : ℕ) / 256, by omega⟩, ⟨(y2 : ℕ) / 64 % 4, by omega⟩, ⟨(y2 : ℕ) % 64, by omega⟩, ?_⟩
    blk_ext []
    all_goals omega
  have hk : ∀ b r (l : Fin 128), Real' (kv (ix3 b r ⟨l, by omega⟩)) := fun b r l => by
    have e : extractStridedSlice S8x2048x128 ![0, 0, 0] kv slices_S8x2048x256_S8x2048x128_0_0_0 (ix3 b r l) = kv (ix3 b r ⟨l, by omega⟩) := by
      pointwise []
    exact e ▸ hkv (ix3 b r l)
  have hm : ∀ j (l : Fin 128), Real' (mt (ix2 j ⟨l, by omega⟩)) := fun j l => by
    have e : extractStridedSlice S16x128 ![0, 0] mt slices_S16x256_S16x128_0_0 (ix2 j l) = mt (ix2 j ⟨l, by omega⟩) := by
      pointwise []
    exact e ▸ hmt (ix2 j l)
  have hS : ∀ j (l : Fin 128), Real' (sees kv mt b c j ⟨l, by omega⟩) := fun j l => by
    unfold sees
    split_ifs
    exacts [hk _ _ l, hm _ l]
  rw [Cert.AttIdeal.Point.whole_at]
  unfold result
  refine (out_at _ _ _ _ _ _ _ _ _).trans ?_
  refine Eq.trans ?_ (attend_reorder turnE _ _ _)
  have hL : (fun k => scores (rows (extractStridedSlice S16x128 ![0, 0] mt slices_S16x256_S16x128_0_0) (extractStridedSlice S8x2048x128 ![0, 0, 0] kv slices_S8x2048x256_S8x2048x128_0_0_0)) q (bias bs) (ix5 (nth b c) p g i k))
      = fun k => if ((turnE k : Fin 208) : ℕ) < (2 - min (c : ℕ) 2) * 64 then ⊥ else
        (∑ e : Fin 64, q (ix3 b ⟨(c : ℕ) * 64 + i, by omega⟩ (lane (head p g) e)) * sees kv mt b c (turnE k) ⟨(p : ℕ) * 64 + e, by omega⟩)
          * Ideal.ofBits .f32 0x3E000000#32 + bs (ix4 ⟨min (c : ℕ) 2, by omega⟩ (head p g) i (turnE k)) := by
    funext k
    rw [scores_at _ _ _ b c p g i k (mask_at b c k), bias_at]
    by_cases hv : (turn k : ℕ) < (2 - min (c : ℕ) 2) * 64
    · exact (if_pos hv).trans (if_pos hv).symm
    · refine (if_neg hv).trans (Eq.trans ?_ (if_neg hv).symm)
      refine congrArg (· + _) (congrArg (· * _) (Finset.sum_congr rfl fun e _ => congrArg (_ * ·) ?_))
      refine rows_sees _ _ kv mt (fun l => ⟨l, by omega⟩) (fun j l => ?_) (fun b r l => ?_) b c k p e hv
      · pointwise []
      · pointwise []
  rw [hL]
  refine attend_masked _ _ (hsk _) (fun k => ?_) _ _ fun k hk => ?_
  · split_ifs
    · exact bot_lt_top
    · exact EReal.add_lt_top ((Real'.sum _ _ fun e : Fin 64 => (hq _).mul (hS _ ⟨(p : ℕ) * 64 + e, by omega⟩)).mul scale_real).2 (hbs _).ne
  · have hv : ¬ (turn k : ℕ) < (2 - min (c : ℕ) 2) * 64 := fun h => hk (if_pos h)
    refine rows_sees _ _ kv mt (fun l => ⟨128 + l, by omega⟩) (fun j l => ?_) (fun b r l => ?_) b c k p d hv
    · pointwise []
    · pointwise []

/-- A number that compares below infinity is below infinity. -/
theorem below_of_lt (x : Ideal .f32) (h : FloatOps.cmpf (F := Ideal) (φ := .f32) .olt x (Ideal.ofBits .f32 0x7F800000#32) = 1#1) : x < ⊤ := by
  have ht : Ideal.ofBits .f32 0x7F800000#32 = ⊤ := by
    show Ideal.ieee 8 23 0x7F800000#32 = ⊤
    rw [Ideal.ieee]
    norm_num
    decide
  change Ideal.cmp .olt x _ = 1#1 at h
  rw [ht] at h
  by_contra hn
  simp [Ideal.cmp, hn] at h

/-- A number whose size is below infinity is a real number. -/
theorem real_of_lt (x : Ideal .f32) (h : FloatOps.cmpf (F := Ideal) (φ := .f32) .olt (FloatOps.absf x) (Ideal.ofBits .f32 0x7F800000#32) = 1#1) : Real' x := by
  have ht : Ideal.ofBits .f32 0x7F800000#32 = ⊤ := by
    show Ideal.ieee 8 23 0x7F800000#32 = ⊤
    rw [Ideal.ieee]
    norm_num
    decide
  change Ideal.cmp .olt (max x (-x)) _ = 1#1 at h
  rw [ht] at h
  have h2 : max x (-x) < ⊤ := by
    by_contra hn
    simp [Ideal.cmp, hn] at h
  exact ⟨fun e => by rw [e] at h2; simp at h2, fun e => by rw [e] at h2; simp at h2⟩

end Cert.AttRefIdeal.Same

end
-- ==== Proof.AttAlg.lean ====
/- The attention's value claim: of finite sinks, queries and keys and biases below infinity its kernel and its reference end with equal results. -/
module

public import proofs.«01_k».proof.Defs
public import proofs.«01_k».proof.Proof.AttF
public import proofs.«01_k».proof.Proof.AttEq

@[expose] public section

set_option maxRecDepth 16384

noncomputable section

namespace Cert.AttIdeal.Claims

open Idealize.ShloMosaic Idealize.ShloMosaic.TcCoe Idealize.SL.Sem Cert.AttIdeal.Finals
open Cert.AttRefIdeal.Same (real_of_lt below_of_lt whole_eq)

/-- The precondition's shapes broadcast as it says. -/
theorem pre_facts : Cert.Pre_finite.Facts := by
  constructor <;> decide

attribute [local instance] Cert.AttIdeal.Gen.facts Cert.AttRefIdeal.Gen.facts pre_facts

set_option maxHeartbeats 4000000 in
/-- From equal arguments, with finite sinks, queries and keys and biases below infinity, the attention's kernel and its reference end with the same array. -/
theorem algebraic : Cert.algebraic_AttIdeal_AttRefIdeal_pre_finite (hAttIdeal := Cert.AttIdeal.Gen.facts) (hAttRefIdeal := Cert.AttRefIdeal.Gen.facts)
    (hPre_finite := pre_facts) := by
  intro m g m' g' hpre hargs
  refine ⟨fun c => Cert.AttIdeal.Point.whole (m ((c.tc : Thread Cert.AttIdeal.nD Cert.AttIdeal.τ).loc Cert.AttIdeal.main_arg0))
    (m ((c.tc : Thread Cert.AttIdeal.nD Cert.AttIdeal.τ).loc Cert.AttIdeal.main_arg1)) (m ((c.tc : Thread Cert.AttIdeal.nD Cert.AttIdeal.τ).loc Cert.AttIdeal.main_arg2))
    (m ((c.tc : Thread Cert.AttIdeal.nD Cert.AttIdeal.τ).loc Cert.AttIdeal.main_arg3)) (m ((c.tc : Thread Cert.AttIdeal.nD Cert.AttIdeal.τ).loc Cert.AttIdeal.main_arg4)), ?_, ?_⟩
  · run_from Cert.AttIdeal.Gen.run_main m g
    exact final m c
  · refine (θ_run Cert.AttRefIdeal.defs _ _).mono (fun r h c => ⟨(h c).1.trans ?_, (h c).2⟩) (Cert.AttRefIdeal.Value.run m' g')
    obtain ⟨e0, e1, e2, e3, e4⟩ := hargs c
    obtain ⟨f0, f1, f2, f3, f4⟩ := hpre c
    rw [Cert.AttRefIdeal.Term.res_eq, e0, e1, e2, e3, e4]
    exact whole_eq _ _ _ _ _ (fun i => real_of_lt _ (congrFun f0 i)) (fun i => real_of_lt _ (congrFun f1 i)) (fun i => real_of_lt _ (congrFun f2 i))
      (fun i => real_of_lt _ (congrFun f3 i)) (fun i => below_of_lt _ (congrFun f4 i))

end Cert.AttIdeal.Claims

end
-- ==== Proof.LnSAlg.lean ====
/- The input projection of the sample batch: the keys and values it returns are the reference's. -/
module

public import proofs.«01_k».proof.Defs
public import proofs.«01_k».proof.Proof.Gen.LnSRefIdeal
public import proofs.«01_k».proof.Proof.Gen.LnSRefIdeal.Run
public import proofs.«01_k».proof.Proof.Gen.LnSIdeal.Frame
public import Idealize.ShloMosaic.Lib.Pointwise
public import Idealize.ShloMosaic.Lib.Claim
public import Idealize.ShloMosaic.Lib.Pipeline.ValueKit

@[expose] public section

set_option maxRecDepth 16384

noncomputable section

namespace Cert.LnSRefIdeal.Term

open Cert.LnSRefIdeal Cert.LnSRefIdeal.Gen Idealize.ShloMosaic Idealize.ShloMosaic.TcCoe Idealize.SL.Sem

/-- The mean of every row, kept as a column. -/
def rowMean (X : FVec Ideal S8x64x1024 .f32) : FVec Ideal S8x64x1 .f32 :=
  Host.divf (broadcastInDim S8x64x1 ![0, 1] bcast_S8x64_S8x64x1_0_1
      (Host.reduceAdd X (constant S_ .f32 0x00000000#32) reducesTo_S8x64x1024_S8x64_d2 h_S_))
    (broadcastInDim S8x64x1 ![] bcast_S_S8x64x1 (constant S_ .f32 0x44800000#32))

/-- Every row less its mean. -/
def centred (X : FVec Ideal S8x64x1024 .f32) : FVec Ideal S8x64x1024 .f32 :=
  subf X (broadcastInDim S8x64x1024 ![0, 1, 2] bcast_S8x64x1_S8x64x1024_0_1_2 (rowMean X))

/-- The layer norm of `X` with gain `g` and shift `b`. -/
def normed (X : FVec Ideal S8x64x1024 .f32) (g b : FVec Ideal S1024 .f32) : FVec Ideal S8x64x1024 .f32 :=
  addf (mulf (mulf (centred X) (broadcastInDim S8x64x1024 ![0, 1, 2] bcast_S8x64x1_S8x64x1024_0_1_2
      (Host.rsqrt (addf (rowMean (mulf (centred X) (centred X)))
        (broadcastInDim S8x64x1 ![] bcast_S_S8x64x1 (constant S_ .f32 0x3727C5AC#32))))))
      (broadcastInDim S8x64x1024 ![0, 1, 2] bcast_S1x1x1024_S8x64x1024_0_1_2
        (broadcastInDim S1x1x1024 ![2] bcast_S1024_S1x1x1024_2 g)))
    (broadcastInDim S8x64x1024 ![0, 1, 2] bcast_S1x1x1024_S8x64x1024_0_1_2
      (broadcastInDim S1x1x1024 ![2] bcast_S1024_S1x1x1024_2 b))

/-- The normed rows times the projection weights. -/
def proj (X : FVec Ideal S8x64x1024 .f32) (g b : FVec Ideal S1024 .f32) (W : FVec Ideal S1x1024x2816 .f32) :
    FVec Ideal S8x64x2816 .f32 :=
  Host.dotGeneral dot_S8x64x1024_S1024x2816_S8x64x2816_2_0_01_1_n_n none (normed X g b)
    (shapeCast _ W shapeCasts_S1x1024x2816_S1024x2816)

/-- The keys beside the values: columns 512 to 767 of the normed rows times the projection weights. -/
def keysValues (X : FVec Ideal S8x64x1024 .f32) (g b : FVec Ideal S1024 .f32) (W : FVec Ideal S1x1024x2816 .f32) :
    FVec Ideal S512x256 .f32 :=
  shapeCast _ (extractStridedSlice S8x64x256 ![0, 0, 512] (proj X g b W) slices_S8x64x2816_S8x64x256_0_0_512) shapeCasts_S8x64x256_S512x256

end Cert.LnSRefIdeal.Term

namespace Cert.LnSIdeal.Values

open Cert.LnSIdeal Cert.LnSIdeal.Gen Idealize.ShloMosaic Idealize.ShloMosaic.TcCoe Idealize.SL.Sem
open Idealize.ShloMosaic.Pipeline (Dat)
open Cert.LnSRefIdeal.Term

variable (m : (ℓ : Loc nD τ sig) → Buf (Elt Ideal) ℓ)

/-- The block each window the keys and values depend on has at every grid point. -/
theorem idx : ∀ t : Fin cfg0.N, win0_0.index t = ![t.val, 0] ∧ win0_1.index t = ![0, 0] ∧ win0_2.index t = ![0, 0]
    ∧ win0_3.index t = ![0, 0] ∧ win0_7.index t = ![t.val, 0] :=
  (by decide +kernel : ∀ t : Fin grid0.N, _)

/-- The keys and values of the launch memory's arguments. -/
def KV (c : Dev nD) : FVec Ideal Cert.LnSRefIdeal.S512x256 .f32 :=
  keysValues (m ((c.tc : Thread nD τ).loc main_arg0)) (m ((c.tc : Thread nD τ).loc main_arg1))
    (m ((c.tc : Thread nD τ).loc main_arg2)) (m ((c.tc : Thread nD τ).loc main_arg3))

/-- A grid point's product, at row `r` and column `e`, is the projection at the batch and position that row is. -/
theorem proj_blk (c : Dev nD) (t : Fin cfg0.N) (r : Fin 64) (e : Fin 2816) (a : Fin 8) (s : Fin 64)
    (h : (a : ℕ) * 64 + s = t.val * 64 + r) :
    k0_pay4 (F := Ideal) (iblk m c 0 t) (iblk m c 1 t) (iblk m c 2 t) (iblk m c 3 t) (ix2 r e)
      = proj (m ((c.tc : Thread nD τ).loc main_arg0)) (m ((c.tc : Thread nD τ).loc main_arg1))
          (m ((c.tc : Thread nD τ).loc main_arg2)) (m ((c.tc : Thread nD τ).loc main_arg3)) (ix3 a s e) := by
  pointwise [k0_pay4, proj, normed, centred, rowMean]
  blk_point [iblk, V, idx t]

/-- What a grid point stores, at block index `y`, is the reference's value at the array index `j` of `y`. -/
theorem pt (c : Dev nD) (t : Fin cfg0.N) (y : S64x256.Idx) (j : S512x256.Idx)
    (h0 : (j 0 : ℕ) = t.val * 64 + y 0) (h1 : (j 1 : ℕ) = y 1) :
    k0_pay8 (F := Ideal) (iblk m c 0 t) (iblk m c 1 t) (iblk m c 2 t) (iblk m c 3 t) y = KV m c j := by
  idx_vars y
  idx_vars j
  idx_bounds
  unfold KV
  pointwise [k0_pay8, keysValues]
  refine (proj_blk m c t y0 _ ⟨(j0 : ℕ) / 64, by omega⟩ ⟨(j0 : ℕ) % 64, by omega⟩ (by simp only []; omega)).trans ?_
  blk_ext []

/-- The array of keys and values at the end of the run. -/
theorem final (c : Dev nD) : (dats m 0 c).arrAt 7 (cfgs 0).N = KV m c := by
  refine (dats m 0 c).arrAt_eq_of_covers 7 _ (by decide +kernel) fun t _ y => ?_
  blk_simp
  rw [after0_7]
  frame_out
  exact pt m c t y _ (by blk_simp [idx t]) (by blk_simp [idx t] <;> omega)

attribute [local instance] Cert.LnSIdeal.Gen.facts Cert.LnSRefIdeal.Gen.facts

set_option maxHeartbeats 4000000 in
/-- From equal arguments the kernel and its reference end with the same keys and values. -/
theorem algebraic : Cert.algebraic_LnSIdeal_LnSRefIdeal (hLnSIdeal := Cert.LnSIdeal.Gen.facts) (hLnSRefIdeal := Cert.LnSRefIdeal.Gen.facts) := by
  intro m g m' g' _ hargs
  refine ⟨fun c => KV m c, ?_, ?_⟩
  · run_from Cert.LnSIdeal.Gen.run_main m g
    exact final m c
  · refine (θ_run Cert.LnSRefIdeal.defs _ _).mono (fun r h c => ?_) (Cert.LnSRefIdeal.Value.run m' g')
    obtain ⟨h0, h1, h2, h3⟩ := hargs c
    refine ⟨(h c).1.trans ?_, (h c).2⟩
    rw [h0, h1, h2, h3]
    rfl

end Cert.LnSIdeal.Values

end
-- ==== Proof.LnMAlg.lean ====
/- The input projection of the meta tokens: the keys and values it returns are the reference's. -/
module

public import proofs.«01_k».proof.Defs
public import proofs.«01_k».proof.Proof.Gen.LnMRefIdeal
public import proofs.«01_k».proof.Proof.Gen.LnMRefIdeal.Run
public import proofs.«01_k».proof.Proof.Gen.LnMIdeal.Frame
public import Idealize.ShloMosaic.Lib.Pointwise
public import Idealize.ShloMosaic.Lib.Claim
public import Idealize.ShloMosaic.Lib.Pipeline.ValueKit

@[expose] public section

set_option maxRecDepth 16384

noncomputable section

namespace Cert.LnMRefIdeal.Term

open Cert.LnMRefIdeal Cert.LnMRefIdeal.Gen Idealize.ShloMosaic Idealize.ShloMosaic.TcCoe Idealize.SL.Sem

/-- The mean of every row, kept as a column. -/
def rowMean (X : FVec Ideal S16x1024 .f32) : FVec Ideal S16x1 .f32 :=
  Host.divf (broadcastInDim S16x1 ![0] bcast_S16_S16x1_0
      (Host.reduceAdd X (constant S_ .f32 0x00000000#32) reducesTo_S16x1024_S16_d1 h_S_))
    (broadcastInDim S16x1 ![] bcast_S_S16x1 (constant S_ .f32 0x44800000#32))

/-- Every row less its mean. -/
def centred (X : FVec Ideal S16x1024 .f32) : FVec Ideal S16x1024 .f32 :=
  subf X (broadcastInDim S16x1024 ![0, 1] bcast_S16x1_S16x1024_0_1 (rowMean X))

/-- The layer norm of `X` with gain `g` and shift `b`. -/
def normed (X : FVec Ideal S16x1024 .f32) (g b : FVec Ideal S1024 .f32) : FVec Ideal S16x1024 .f32 :=
  addf (mulf (mulf (centred X) (broadcastInDim S16x1024 ![0, 1] bcast_S16x1_S16x1024_0_1
      (Host.rsqrt (addf (rowMean (mulf (centred X) (centred X)))
        (broadcastInDim S16x1 ![] bcast_S_S16x1 (constant S_ .f32 0x3727C5AC#32))))))
      (broadcastInDim S16x1024 ![0, 1] bcast_S1x1024_S16x1024_0_1
        (broadcastInDim S1x1024 ![1] bcast_S1024_S1x1024_1 g)))
    (broadcastInDim S16x1024 ![0, 1] bcast_S1x1024_S16x1024_0_1
      (broadcastInDim S1x1024 ![1] bcast_S1024_S1x1024_1 b))

/-- The keys beside the values: columns 512 to 767 of the normed rows times the projection weights. -/
def keysValues (X : FVec Ideal S16x1024 .f32) (g b : FVec Ideal S1024 .f32) (W : FVec Ideal S1x1024x2816 .f32) :
    FVec Ideal S16x256 .f32 :=
  extractStridedSlice S16x256 ![0, 512]
    (Host.dotGeneral dot_S16x1024_S1024x2816_S16x2816_1_0_0_1_n_n none (normed X g b)
      (shapeCast _ W shapeCasts_S1x1024x2816_S1024x2816)) slices_S16x2816_S16x256_0_512

end Cert.LnMRefIdeal.Term

namespace Cert.LnMIdeal.Values

open Cert.LnMIdeal Cert.LnMIdeal.Gen Idealize.ShloMosaic Idealize.ShloMosaic.TcCoe Idealize.SL.Sem
open Idealize.ShloMosaic.Pipeline (Dat)
open Cert.LnMRefIdeal.Term

variable (m : (ℓ : Loc nD τ sig) → Buf (Elt Ideal) ℓ)

/-- The block each window the keys and values depend on has at every grid point. -/
theorem idx : ∀ t : Fin cfg0.N, win0_0.index t = ![t.val, 0] ∧ win0_1.index t = ![0, 0] ∧ win0_2.index t = ![0, 0]
    ∧ win0_3.index t = ![0, 0] ∧ win0_7.index t = ![t.val, 0] :=
  (by decide +kernel : ∀ t : Fin grid0.N, _)

/-- The keys and values of the launch memory's arguments. -/
def KV (c : Dev nD) : FVec Ideal Cert.LnMRefIdeal.S16x256 .f32 :=
  keysValues (m ((c.tc : Thread nD τ).loc main_arg0)) (m ((c.tc : Thread nD τ).loc main_arg1))
    (m ((c.tc : Thread nD τ).loc main_arg2)) (m ((c.tc : Thread nD τ).loc main_arg3))

/-- What a grid point stores, at block index `y`, is the reference's value at the array index `j` of `y`. -/
theorem pt (c : Dev nD) (t : Fin cfg0.N) (y : S16x256.Idx) (j : S16x256.Idx)
    (h0 : (j 0 : ℕ) = t.val * 16 + y 0) (h1 : (j 1 : ℕ) = y 1) :
    k0_pay8 (F := Ideal) (iblk m c 0 t) (iblk m c 1 t) (iblk m c 2 t) (iblk m c 3 t) y = KV m c j := by
  idx_vars y
  idx_vars j
  idx_bounds
  unfold KV
  pointwise [k0_pay8, k0_pay4, keysValues, normed, centred, rowMean]
  blk_point [iblk, V, idx t]

/-- The array of keys and values at the end of the run. -/
theorem final (c : Dev nD) : (dats m 0 c).arrAt 7 (cfgs 0).N = KV m c := by
  refine (dats m 0 c).arrAt_eq_of_covers 7 _ (by decide +kernel) fun t _ y => ?_
  blk_simp
  rw [after0_7]
  frame_out
  exact pt m c t y _ (by blk_simp [idx t]) (by blk_simp [idx t] <;> omega)

attribute [local instance] Cert.LnMIdeal.Gen.facts Cert.LnMRefIdeal.Gen.facts

set_option maxHeartbeats 4000000 in
/-- From equal arguments the kernel and its reference end with the same keys and values. -/
theorem algebraic : Cert.algebraic_LnMIdeal_LnMRefIdeal (hLnMIdeal := Cert.LnMIdeal.Gen.facts) (hLnMRefIdeal := Cert.LnMRefIdeal.Gen.facts) := by
  intro m g m' g' _ hargs
  refine ⟨fun c => KV m c, ?_, ?_⟩
  · run_from Cert.LnMIdeal.Gen.run_main m g
    exact final m c
  · refine (θ_run Cert.LnMRefIdeal.defs _ _).mono (fun r h c => ?_) (Cert.LnMRefIdeal.Value.run m' g')
    obtain ⟨h0, h1, h2, h3⟩ := hargs c
    refine ⟨(h c).1.trans ?_, (h c).2⟩
    rw [h0, h1, h2, h3]
    rfl

end Cert.LnMIdeal.Values

end
-- ==== Proof.lean ====
/- The proof of the certificate's claim: every program's frame, every idealization, and the value claims of the
   retention, of the attention, of the input projection of all three batches and of the mixing. -/
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.RetIdeal.Value
public import proofs.«01_k».proof.Proof.Gen.RetRefIdeal.Step
public import proofs.«01_k».proof.Proof.Gen.RetRefIdeal.Run
public import proofs.«01_k».proof.Proof.Gen.AttIdeal.Value
public import proofs.«01_k».proof.Proof.Gen.AttRefIdeal.Run
public import proofs.«01_k».proof.Proof.Gen.LnS
public import proofs.«01_k».proof.Proof.Gen.LnS.Skeleton
public import proofs.«01_k».proof.Proof.Gen.LnS.Launch
public import proofs.«01_k».proof.Proof.Gen.LnS.Points
public import proofs.«01_k».proof.Proof.Gen.LnS.Frame
public import proofs.«01_k».proof.Proof.Gen.LnSIdeal
public import proofs.«01_k».proof.Proof.Gen.LnSIdeal.Skeleton
public import proofs.«01_k».proof.Proof.Gen.LnSIdeal.Launch
public import proofs.«01_k».proof.Proof.Gen.LnSIdeal.Points
public import proofs.«01_k».proof.Proof.Gen.LnSIdeal.Frame
public import proofs.«01_k».proof.Proof.Gen.LnSRefIdeal
public import proofs.«01_k».proof.Proof.Gen.LnM
public import proofs.«01_k».proof.Proof.Gen.LnM.Skeleton
public import proofs.«01_k».proof.Proof.Gen.LnM.Launch
public import proofs.«01_k».proof.Proof.Gen.LnM.Points
public import proofs.«01_k».proof.Proof.Gen.LnM.Frame
public import proofs.«01_k».proof.Proof.Gen.LnMIdeal
public import proofs.«01_k».proof.Proof.Gen.LnMIdeal.Skeleton
public import proofs.«01_k».proof.Proof.Gen.LnMIdeal.Launch
public import proofs.«01_k».proof.Proof.Gen.LnMIdeal.Points
public import proofs.«01_k».proof.Proof.Gen.LnMIdeal.Frame
public import proofs.«01_k».proof.Proof.Gen.LnMRefIdeal
public import proofs.«01_k».proof.Proof.Gen.LnSIdeal.Value
public import proofs.«01_k».proof.Proof.Gen.LnMIdeal.Value
public import proofs.«01_k».proof.Proof.Gen.LnSRefIdeal.Run
public import proofs.«01_k».proof.Proof.Gen.LnMRefIdeal.Run
public import proofs.«01_k».proof.Proof.LnAlg
public import proofs.«01_k».proof.Proof.RetAlg
public import proofs.«01_k».proof.Proof.MixAlg
public import proofs.«01_k».proof.Proof.AttAlg
public import proofs.«01_k».proof.Proof.LnSAlg
public import proofs.«01_k».proof.Proof.LnMAlg
public import Idealize.ShloMosaic.Lib.Claim
public import proofs.«01_k».proof.Proof.Gen.LnIdeal.Value
public import proofs.«01_k».proof.Proof.Gen.LnRefIdeal.Run
public import Idealize.ShloMosaic.Adequacy
public import Idealize.ShloMosaic.Init

@[expose] public section

noncomputable section

-- Every frame also says that every semaphore counter ends at zero.

namespace Cert.Proof

open Idealize.ShloMosaic Idealize.SL.Sem Cert.Ret

/-- The retention's reference runs, leaves its arguments unchanged and ends with every counter at zero, having none. -/
theorem ret_ref_frame : Cert.quiescent_RetRefIdeal (hRetRefIdeal := Cert.RetRefIdeal.Gen.facts) := fun m ρ _ =>
  (θ_run Cert.RetRefIdeal.defs _ _).mono (fun r h => ⟨fun c => (h c).2.2, sem_eq_zero_of_no_sems (by decide) r.2⟩)
    (Cert.RetRefIdeal.Value.run m ρ)

/-- The attention's reference runs, leaves its arguments unchanged and ends with every counter at zero, having none. -/
theorem att_ref_frame : Cert.quiescent_AttRefIdeal (hAttRefIdeal := Cert.AttRefIdeal.Gen.facts) := fun m ρ _ =>
  (θ_run Cert.AttRefIdeal.defs _ _).mono (fun r h => ⟨fun c => (h c).2, sem_eq_zero_of_no_sems (by decide) r.2⟩)
    (Cert.AttRefIdeal.Value.run m ρ)

/-- The projection's reference runs, leaves its arguments unchanged and ends with every counter at zero, having none. -/
theorem ln_ref_frame : Cert.quiescent_LnRefIdeal (hLnRefIdeal := Cert.LnRefIdeal.Gen.facts) := fun m ρ _ =>
  (θ_run Cert.LnRefIdeal.defs _ _).mono (fun r h => ⟨fun c => (h c).2.2.2.2.2.2, sem_eq_zero_of_no_sems (by decide) r.2⟩)
    (Cert.LnRefIdeal.Value.run m ρ)

/-- The mixing's reference runs, leaves its arguments unchanged and ends with every counter at zero, having none. -/
theorem mix_ref_frame : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run m ρ)

/-- The same of the reference of the sample batch's projection. -/
theorem lns_ref_frame : Cert.quiescent_LnSRefIdeal (hLnSRefIdeal := Cert.LnSRefIdeal.Gen.facts) := fun m ρ _ =>
  (θ_run Cert.LnSRefIdeal.defs _ _).mono (fun r h => ⟨fun c => (h c).2, sem_eq_zero_of_no_sems (by decide) r.2⟩)
    (Cert.LnSRefIdeal.Value.run m ρ)

/-- The same of the reference of the meta tokens' projection. -/
theorem lnm_ref_frame : Cert.quiescent_LnMRefIdeal (hLnMRefIdeal := Cert.LnMRefIdeal.Gen.facts) := fun m ρ _ =>
  (θ_run Cert.LnMRefIdeal.defs _ _).mono (fun r h => ⟨fun c => (h c).2, sem_eq_zero_of_no_sems (by decide) r.2⟩)
    (Cert.LnMRefIdeal.Value.run m ρ)

/-- The attention's named mask constant is minus infinity. -/
theorem att_preserves : Cert.preserves_Att_AttIdeal := IdealRules.named_const.statement _ _ _ _ _ rfl

/-- All that is claimed: the programs' side conditions, their frames, the idealizations and the value claims. -/
theorem claim : Cert.Claim := ⟨Cert.Ret.Gen.facts, Cert.RetIdeal.Gen.facts, Cert.RetRefIdeal.Gen.facts, Cert.Att.Gen.facts, Cert.AttIdeal.Gen.facts, Cert.AttRefIdeal.Gen.facts, Cert.Ln.Gen.facts, Cert.LnIdeal.Gen.facts, Cert.LnRefIdeal.Gen.facts,
  Cert.Mix.Gen.facts, Cert.MixIdeal.Gen.facts, Cert.MixRefIdeal.Gen.facts, Cert.LnS.Gen.facts, Cert.LnSIdeal.Gen.facts, Cert.LnSRefIdeal.Gen.facts, Cert.LnM.Gen.facts, Cert.LnMIdeal.Gen.facts, Cert.LnMRefIdeal.Gen.facts,
  Cert.AttIdeal.Claims.pre_facts,
  fun m ρ _ => Cert.Ret.Gen.frame m ρ, fun m ρ _ => Cert.RetIdeal.Gen.frame m ρ, ret_ref_frame,
  fun m ρ _ => Cert.Att.Gen.frame m ρ, fun m ρ _ => Cert.AttIdeal.Gen.frame m ρ, fun m ρ _ => Cert.AttIdeal.Gen.frame m ρ,
  att_ref_frame, fun m ρ _ => att_ref_frame m ρ trivial,
  fun m ρ _ => Cert.Ln.Gen.frame m ρ, fun m ρ _ => Cert.LnIdeal.Gen.frame m ρ, ln_ref_frame,
  fun m ρ _ => Cert.Mix.Gen.frame m ρ, fun m ρ _ => Cert.MixIdeal.Gen.frame m ρ, mix_ref_frame,
  fun m ρ _ => Cert.LnS.Gen.frame m ρ, fun m ρ _ => Cert.LnSIdeal.Gen.frame m ρ, lns_ref_frame,
  fun m ρ _ => Cert.LnM.Gen.frame m ρ, fun m ρ _ => Cert.LnMIdeal.Gen.frame m ρ, lnm_ref_frame,
  trivial, Cert.RetIdeal.Claims.algebraic, att_preserves, Cert.AttIdeal.Claims.algebraic, trivial, Cert.LnIdeal.Claims.algebraic,
  trivial, Cert.MixIdeal.Claims.algebraic, trivial, Cert.LnSIdeal.Values.algebraic, trivial, Cert.LnMIdeal.Values.algebraic⟩

end Cert.Proof

end
